-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits_known_labels [hPre_finite_logits_known_labels : Cert.Pre_finite_logits_known_labels.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits_known_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits_known_labels [hPre_finite_logits_known_labels : Cert.Pre_finite_logits_known_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits_known_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits_known_labels [hKernelIdeal : Cert.KernelIdeal.Facts] [hPre_finite_logits_known_labels : Cert.Pre_finite_logits_known_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits_known_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits_known_labels [hReferenceIdeal : Cert.ReferenceIdeal.Facts] [hPre_finite_logits_known_labels : Cert.Pre_finite_logits_known_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits_known_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_logits_known_labels [hKernelIdeal : Cert.KernelIdeal.Facts] [hReferenceIdeal : Cert.ReferenceIdeal.Facts] [hPre_finite_logits_known_labels : Cert.Pre_finite_logits_known_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits_known_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_logits_known_labels : Cert.Pre_finite_logits_known_labels.Facts),
    quiescent_Kernel (hKernel := hKernel)
    ∧ quiescent_KernelIdeal (hKernelIdeal := hKernelIdeal)
    ∧ quiescent_KernelIdeal_pre_finite_logits_known_labels (hKernelIdeal := hKernelIdeal) (hPre_finite_logits_known_labels := hPre_finite_logits_known_labels)
    ∧ quiescent_ReferenceIdeal (hReferenceIdeal := hReferenceIdeal)
    ∧ quiescent_ReferenceIdeal_pre_finite_logits_known_labels (hReferenceIdeal := hReferenceIdeal) (hPre_finite_logits_known_labels := hPre_finite_logits_known_labels)
    ∧ preserves_Kernel_KernelIdeal
    ∧ algebraic_KernelIdeal_ReferenceIdeal_pre_finite_logits_known_labels (hKernelIdeal := hKernelIdeal) (hReferenceIdeal := hReferenceIdeal) (hPre_finite_logits_known_labels := hPre_finite_logits_known_labels)
-- ==== Pre_finite_logits_known_labels.lean ====
abbrev S4x20000x81 : Shape := ⟨3, ![4, 20000, 81]⟩
abbrev S4x20000x4 : Shape := ⟨3, ![4, 20000, 4]⟩
abbrev S4x100x4 : Shape := ⟨3, ![4, 100, 4]⟩
abbrev S4x100 : Shape := ⟨2, ![4, 100]⟩
abbrev S_ : Shape := ⟨0, ![]⟩

class Facts : Prop where
  bcast_S_S4x20000x81 : S_.BroadcastsInDim S4x20000x81 (![] : Fin 0 → Fin S4x20000x81.rank)
  reducesTo_S4x20000x81_S_d0_1_2 : S4x20000x81.ReducesTo [0, 1, 2] S_
  h_S_ : 0 < S_.numel
  bcast_S_S4x100 : S_.BroadcastsInDim S4x100 (![] : Fin 0 → Fin S4x100.rank)
  reducesTo_S4x100_S_d0_1 : S4x100.ReducesTo [0, 1] S_

variable [Facts]

def fn {F : FTy → Type} [FloatOps F] (main_arg0 : FVec F S4x20000x81 .f32) (main_arg1 : FVec F S4x20000x4 .f32) (main_arg2 : FVec F S4x100x4 .f32) (main_arg3 : IVec S4x100 32) : IVec S_ 1 :=
  let main_v0 : FVec F S4x20000x81 .f32 := Host.absf main_arg0
  let main_cst : FVec F S_ .f32 := constant S_ .f32 0x7F800000#32
  let main_v1 : FVec F S4x20000x81 .f32 := broadcastInDim S4x20000x81 ![] bcast_S_S4x20000x81 main_cst
  let main_v2 : IVec S4x20000x81 1 := cmpf .olt main_v0 main_v1
  let main_c : IVec S_ 1 := constantI S_ 1 1#1
  let main_v3 : IVec S_ 1 := (fun x v => Host.reduce IntOp.andi x v reducesTo_S4x20000x81_S_d0_1_2 h_S_) main_v2 main_c
  let main_c_0 : IVec S_ 32 := constantI S_ 32 0#32
  let main_v4 : IVec S4x100 32 := broadcastInDim S4x100 ![] bcast_S_S4x100 main_c_0
  let main_v5 : IVec S4x100 1 := cmpi .sge main_arg3 main_v4
  let main_c_1 : IVec S_ 32 := constantI S_ 32 81#32
  let main_v6 : IVec S4x100 32 := broadcastInDim S4x100 ![] bcast_S_S4x100 main_c_1
  let main_v7 : IVec S4x100 1 := cmpi .slt main_arg3 main_v6
  let main_v8 : IVec S4x100 1 := andi main_v5 main_v7
  let main_c_2 : IVec S_ 1 := constantI S_ 1 1#1
  let main_v9 : IVec S_ 1 := (fun x v => Host.reduce IntOp.andi x v reducesTo_S4x100_S_d0_1 h_S_) main_v8 main_c_2
  let main_v10 : IVec S_ 1 := andi main_v3 main_v9
  main_v10
-- ==== Kernel.lean ====
abbrev S4x20000x81 : Shape := ⟨3, ![4, 20000, 81]⟩
abbrev S4x20000x4 : Shape := ⟨3, ![4, 20000, 4]⟩
abbrev S4x100x4 : Shape := ⟨3, ![4, 100, 4]⟩
abbrev S4x100 : Shape := ⟨2, ![4, 100]⟩
abbrev S4x1x100 : Shape := ⟨3, ![4, 1, 100]⟩
abbrev S81 : Shape := ⟨1, ![81]⟩
abbrev S1x81x1 : Shape := ⟨3, ![1, 81, 1]⟩
abbrev S4x81x100 : Shape := ⟨3, ![4, 81, 100]⟩
abbrev S4x100x1 : Shape := ⟨3, ![4, 100, 1]⟩
abbrev S_ : Shape := ⟨0, ![]⟩
abbrev S4x16x100 : Shape := ⟨3, ![4, 16, 100]⟩
abbrev S1x81x100 : Shape := ⟨3, ![1, 81, 100]⟩
abbrev S1x16x100 : Shape := ⟨3, ![1, 16, 100]⟩
abbrev S1x1000x81 : Shape := ⟨3, ![1, 1000, 81]⟩
abbrev S1x1000x4 : Shape := ⟨3, ![1, 1000, 4]⟩
abbrev S1x1x100 : Shape := ⟨3, ![1, 1, 100]⟩
abbrev S1000x81 : Shape := ⟨2, ![1000, 81]⟩
abbrev S1000 : Shape := ⟨1, ![1000]⟩
abbrev S1000x1 : Shape := ⟨2, ![1000, 1]⟩
abbrev S81x100 : Shape := ⟨2, ![81, 100]⟩
abbrev S1000x100 : Shape := ⟨2, ![1000, 100]⟩
abbrev S1000x4 : Shape := ⟨2, ![1000, 4]⟩
abbrev S16x100 : Shape := ⟨2, ![16, 100]⟩
abbrev S1x100 : Shape := ⟨2, ![1, 100]⟩
abbrev S100 : Shape := ⟨1, ![100]⟩

abbrev nBuf : Space → Nat
  | .hbm => 61
  | .vmem => 12
  | .smem => 0
  | _ => 0

abbrev bufTy : (tb : Table) → Fin (tcTables nBuf tb) → BufTy
  | .hbm, ⟨0, _⟩ => ⟨S4x20000x81, .f32⟩
  | .hbm, ⟨1, _⟩ => ⟨S4x20000x4, .f32⟩
  | .hbm, ⟨2, _⟩ => ⟨S4x100x4, .f32⟩
  | .hbm, ⟨3, _⟩ => ⟨S4x100, .i32⟩
  | .hbm, ⟨4, _⟩ => ⟨S4x1x100, .i32⟩
  | .hbm, ⟨5, _⟩ => ⟨S81, .i32⟩
  | .hbm, ⟨6, _⟩ => ⟨S1x81x1, .i32⟩
  | .hbm, ⟨7, _⟩ => ⟨S4x81x100, .i32⟩
  | .hbm, ⟨8, _⟩ => ⟨S4x81x100, .i32⟩
  | .hbm, ⟨9, _⟩ => ⟨S4x81x100, .i1⟩
  | .hbm, ⟨10, _⟩ => ⟨S4x81x100, .f32⟩
  | .hbm, ⟨11, _⟩ => ⟨S4x100x1, .f32⟩
  | .hbm, ⟨12, _⟩ => ⟨S4x100, .f32⟩
  | .hbm, ⟨13, _⟩ => ⟨S4x100x1, .f32⟩
  | .hbm, ⟨14, _⟩ => ⟨S4x100, .f32⟩
  | .hbm, ⟨15, _⟩ => ⟨S4x100x1, .f32⟩
  | .hbm, ⟨16, _⟩ => ⟨S4x100, .f32⟩
  | .hbm, ⟨17, _⟩ => ⟨S4x100x1, .f32⟩
  | .hbm, ⟨18, _⟩ => ⟨S4x100, .f32⟩
  | .hbm, ⟨19, _⟩ => ⟨S_, .f32⟩
  | .hbm, ⟨20, _⟩ => ⟨S4x100, .f32⟩
  | .hbm, ⟨21, _⟩ => ⟨S4x100, .f32⟩
  | .hbm, ⟨22, _⟩ => ⟨S4x100, .f32⟩
  | .hbm, ⟨23, _⟩ => ⟨S_, .f32⟩
  | .hbm, ⟨24, _⟩ => ⟨S4x100, .f32⟩
  | .hbm, ⟨25, _⟩ => ⟨S4x100, .f32⟩
  | .hbm, ⟨26, _⟩ => ⟨S4x100, .f32⟩
  | .hbm, ⟨27, _⟩ => ⟨S_, .f32⟩
  | .hbm, ⟨28, _⟩ => ⟨S4x100, .f32⟩
  | .hbm, ⟨29, _⟩ => ⟨S4x100, .f32⟩
  | .hbm, ⟨30, _⟩ => ⟨S4x100, .f32⟩
  | .hbm, ⟨31, _⟩ => ⟨S_, .f32⟩
  | .hbm, ⟨32, _⟩ => ⟨S4x100, .f32⟩
  | .hbm, ⟨33, _⟩ => ⟨S4x100, .f32⟩
  | .hbm, ⟨34, _⟩ => ⟨S4x100, .f32⟩
  | .hbm, ⟨35, _⟩ => ⟨S4x100, .f32⟩
  | .hbm, ⟨36, _⟩ => ⟨S4x100, .f32⟩
  | .hbm, ⟨37, _⟩ => ⟨S4x100, .f32⟩
  | .hbm, ⟨38, _⟩ => ⟨S_, .f32⟩
  | .hbm, ⟨39, _⟩ => ⟨S4x100, .f32⟩
  | .hbm, ⟨40, _⟩ => ⟨S4x1x100, .f32⟩
  | .hbm, ⟨41, _⟩ => ⟨S4x1x100, .f32⟩
  | .hbm, ⟨42, _⟩ => ⟨S4x1x100, .f32⟩
  | .hbm, ⟨43, _⟩ => ⟨S4x1x100, .f32⟩
  | .hbm, ⟨44, _⟩ => ⟨S4x1x100, .f32⟩
  | .hbm, ⟨45, _⟩ => ⟨S4x1x100, .f32⟩
  | .hbm, ⟨46, _⟩ => ⟨S4x1x100, .f32⟩
  | .hbm, ⟨47, _⟩ => ⟨S4x1x100, .f32⟩
  | .hbm, ⟨48, _⟩ => ⟨S4x1x100, .f32⟩
  | .hbm, ⟨49, _⟩ => ⟨S4x1x100, .f32⟩
  | .hbm, ⟨50, _⟩ => ⟨S4x1x100, .f32⟩
  | .hbm, ⟨51, _⟩ => ⟨S4x1x100, .f32⟩
  | .hbm, ⟨52, _⟩ => ⟨S4x1x100, .f32⟩
  | .hbm, ⟨53, _⟩ => ⟨S4x1x100, .f32⟩
  | .hbm, ⟨54, _⟩ => ⟨S4x1x100, .f32⟩
  | .hbm, ⟨55, _⟩ => ⟨S4x1x100, .f32⟩
  | .hbm, ⟨56, _⟩ => ⟨S4x16x100, .f32⟩
  | .hbm, ⟨57, _⟩ => ⟨S4x1x100, .f32⟩
  | .hbm, ⟨58, _⟩ => ⟨S4x1x100, .i32⟩
  | .hbm, ⟨59, _⟩ => ⟨S4x100, .f32⟩
  | .hbm, ⟨60, _⟩ => ⟨S4x100, .i32⟩
  | .local _ .vmem, ⟨0, _⟩ => ⟨S1x81x100, .f32⟩
  | .local _ .vmem, ⟨1, _⟩ => ⟨S1x81x100, .f32⟩
  | .local _ .vmem, ⟨2, _⟩ => ⟨S1x16x100, .f32⟩
  | .local _ .vmem, ⟨3, _⟩ => ⟨S1x16x100, .f32⟩
  | .local _ .vmem, ⟨4, _⟩ => ⟨S1x1000x81, .f32⟩
  | .local _ .vmem, ⟨5, _⟩ => ⟨S1x1000x81, .f32⟩
  | .local _ .vmem, ⟨6, _⟩ => ⟨S1x1000x4, .f32⟩
  | .local _ .vmem, ⟨7, _⟩ => ⟨S1x1000x4, .f32⟩
  | .local _ .vmem, ⟨8, _⟩ => ⟨S1x1x100, .f32⟩
  | .local _ .vmem, ⟨9, _⟩ => ⟨S1x1x100, .f32⟩
  | .local _ .vmem, ⟨10, _⟩ => ⟨S1x1x100, .i32⟩
  | .local _ .vmem, ⟨11, _⟩ => ⟨S1x1x100, .i32⟩
  | _, _ => ⟨S4x20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_call0_cst : Ref sig .tc := ⟨.hbm, 19, rfl⟩
abbrev main_call0_v15 : Ref sig .tc := ⟨.hbm, 20, rfl⟩
abbrev main_call0_v16 : Ref sig .tc := ⟨.hbm, 21, rfl⟩
abbrev main_call0_v17 : Ref sig .tc := ⟨.hbm, 22, rfl⟩
abbrev main_call0_cst_0 : Ref sig .tc := ⟨.hbm, 23, rfl⟩
abbrev main_call0_v18 : Ref sig .tc := ⟨.hbm, 24, rfl⟩
abbrev main_call0_v19 : Ref sig .tc := ⟨.hbm, 25, rfl⟩
abbrev main_call0_v20 : Ref sig .tc := ⟨.hbm, 26, rfl⟩
abbrev main_call0_cst_1 : Ref sig .tc := ⟨.hbm, 27, rfl⟩
abbrev main_call0_v21 : Ref sig .tc := ⟨.hbm, 28, rfl⟩
abbrev main_call0_v22 : Ref sig .tc := ⟨.hbm, 29, rfl⟩
abbrev main_call0_v23 : Ref sig .tc := ⟨.hbm, 30, rfl⟩
abbrev main_call0_cst_2 : Ref sig .tc := ⟨.hbm, 31, rfl⟩
abbrev main_call0_v24 : Ref sig .tc := ⟨.hbm, 32, rfl⟩
abbrev main_call0_v25 : Ref sig .tc := ⟨.hbm, 33, rfl⟩
abbrev main_call0_v26 : Ref sig .tc := ⟨.hbm, 34, rfl⟩
abbrev main_call0_v27 : Ref sig .tc := ⟨.hbm, 35, rfl⟩
abbrev main_call0_v28 : Ref sig .tc := ⟨.hbm, 36, rfl⟩
abbrev main_call0_v29 : Ref sig .tc := ⟨.hbm, 37, rfl⟩
abbrev main_call0_cst_3 : Ref sig .tc := ⟨.hbm, 38, rfl⟩
abbrev main_call0_v30 : Ref sig .tc := ⟨.hbm, 39, rfl⟩
abbrev main_call0_v31 : Ref sig .tc := ⟨.hbm, 40, rfl⟩
abbrev main_call0_v32 : Ref sig .tc := ⟨.hbm, 41, rfl⟩
abbrev main_call0_v33 : Ref sig .tc := ⟨.hbm, 42, rfl⟩
abbrev main_call0_v34 : Ref sig .tc := ⟨.hbm, 43, rfl⟩
abbrev main_call0_v35 : Ref sig .tc := ⟨.hbm, 44, rfl⟩
abbrev main_call0_v36 : Ref sig .tc := ⟨.hbm, 45, rfl⟩
abbrev main_call0_v37 : Ref sig .tc := ⟨.hbm, 46, rfl⟩
abbrev main_call0_v38 : Ref sig .tc := ⟨.hbm, 47, rfl⟩
abbrev main_call0_v39 : Ref sig .tc := ⟨.hbm, 48, rfl⟩
abbrev main_call0_v40 : Ref sig .tc := ⟨.hbm, 49, rfl⟩
abbrev main_call0_v41 : Ref sig .tc := ⟨.hbm, 50, rfl⟩
abbrev main_call0_v42 : Ref sig .tc := ⟨.hbm, 51, rfl⟩
abbrev main_call0_v43 : Ref sig .tc := ⟨.hbm, 52, rfl⟩
abbrev main_call0_v44 : Ref sig .tc := ⟨.hbm, 53, rfl⟩
abbrev main_call0_v45 : Ref sig .tc := ⟨.hbm, 54, rfl⟩
abbrev main_call0_v46 : Ref sig .tc := ⟨.hbm, 55, rfl⟩
abbrev main_call0_v47 : Ref sig .tc := ⟨.hbm, 56, rfl⟩
abbrev main_call0_v48_0 : Ref sig .tc := ⟨.hbm, 57, rfl⟩
abbrev main_call0_v48_1 : Ref sig .tc := ⟨.hbm, 58, rfl⟩
abbrev main_v0_0 : Ref sig .tc := ⟨.hbm, 59, rfl⟩
abbrev main_v0_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x81x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1000x81 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x100 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4x20000x81 : Shape := ⟨3, ![4, 20000, 81]⟩
abbrev S4x20000x4 : Shape := ⟨3, ![4, 20000, 4]⟩
abbrev S4x100x4 : Shape := ⟨3, ![4, 100, 4]⟩
abbrev S4x100 : Shape := ⟨2, ![4, 100]⟩
abbrev S_ : Shape := ⟨0, ![]⟩
abbrev S4x20000 : Shape := ⟨2, ![4, 20000]⟩
abbrev S4x20000x1 : Shape := ⟨3, ![4, 20000, 1]⟩
abbrev S4x1x100 : Shape := ⟨3, ![4, 1, 100]⟩
abbrev S4x20000x100 : Shape := ⟨3, ![4, 20000, 100]⟩
abbrev S4x20000x100x1 : Shape := ⟨4, ![4, 20000, 100, 1]⟩
abbrev S1 : Shape := ⟨1, ![1]⟩
abbrev S1x1x1x1 : Shape := ⟨4, ![1, 1, 1, 1]⟩
abbrev S4x20000x1x4 : Shape := ⟨4, ![4, 20000, 1, 4]⟩
abbrev S4x1x100x4 : Shape := ⟨4, ![4, 1, 100, 4]⟩
abbrev S4x20000x100x4 : Shape := ⟨4, ![4, 20000, 100, 4]⟩
abbrev S4x100x1 : Shape := ⟨3, ![4, 100, 1]⟩
abbrev S4x20000x2 : Shape := ⟨3, ![4, 20000, 2]⟩
abbrev S4x20000x1x2 : Shape := ⟨4, ![4, 20000, 1, 2]⟩
abbrev S4x100x2 : Shape := ⟨3, ![4, 100, 2]⟩
abbrev S4x1x100x2 : Shape := ⟨4, ![4, 1, 100, 2]⟩
abbrev S4x20000x100x2 : Shape := ⟨4, ![4, 20000, 100, 2]⟩

abbrev nBuf : Space → Nat
  | .hbm => 198
  | .vmem => 0
  | .smem => 0
  | _ => 0

abbrev hbmTy0_0 (i : Nat) : BufTy := match i % 128 with
  | 0 => ⟨S4x20000x81, .f32⟩
  | 1 => ⟨S4x20000x4, .f32⟩
  | 2 => ⟨S4x100x4, .f32⟩
  | 3 => ⟨S4x100, .i32⟩
  | 4 => ⟨S_, .f32⟩
  | 5 => ⟨S4x20000, .f32⟩
  | 6 => ⟨S_, .f32⟩
  | 7 => ⟨S4x20000, .f32⟩
  | 8 => ⟨S4x20000, .f32⟩
  | 9 => ⟨S4x20000x1, .f32⟩
  | 10 => ⟨S4x20000x81, .f32⟩
  | 11 => ⟨S4x20000x81, .f32⟩
  | 12 => ⟨S4x20000x81, .f32⟩
  | 13 => ⟨S_, .f32⟩
  | 14 => ⟨S4x20000, .f32⟩
  | 15 => ⟨S4x20000x1, .f32⟩
  | 16 => ⟨S4x20000x81, .f32⟩
  | 17 => ⟨S4x20000x81, .f32⟩
  | 18 => ⟨S4x1x100, .i32⟩
  | 19 => ⟨S4x20000x100, .i32⟩
  | 20 => ⟨S_, .i32⟩
  | 21 => ⟨S4x20000x100, .i32⟩
  | 22 => ⟨S4x20000x100, .i1⟩
  | 23 => ⟨S_, .i32⟩
  | 24 => ⟨S4x20000x100, .i32⟩
  | 25 => ⟨S4x20000x100, .i32⟩
  | 26 => ⟨S4x20000x100, .i32⟩
  | 27 => ⟨S4x20000x100x1, .i32⟩
  | 28 => ⟨S1, .i32⟩
  | 29 => ⟨S_, .i32⟩
  | 30 => ⟨S4x20000x100x1, .i32⟩
  | 31 => ⟨S4x20000x100x1, .i1⟩
  | 32 => ⟨S1x1x1x1, .i32⟩
  | 33 => ⟨S4x20000x100x1, .i32⟩
  | 34 => ⟨S4x20000x100x1, .i1⟩
  | 35 => ⟨S4x20000x100x1, .i1⟩
  | 36 => ⟨S_, .i1⟩
  | 37 => ⟨S4x20000x100, .i1⟩
  | 38 => ⟨S4x20000x100, .f32⟩
  | 39 => ⟨S_, .f32⟩
  | 40 => ⟨S4x20000x100, .f32⟩
  | 41 => ⟨S4x20000x100, .f32⟩
  | 42 => ⟨S4x20000x100, .f32⟩
  | 43 => ⟨S4x20000x1x4, .f32⟩
  | 44 => ⟨S4x1x100x4, .f32⟩
  | 45 => ⟨S4x20000x100x4, .f32⟩
  | 46 => ⟨S4x20000x100x4, .f32⟩
  | 47 => ⟨S4x20000x100x4, .f32⟩
  | 48 => ⟨S4x20000x100x4, .f32⟩
  | 49 => ⟨S_, .f32⟩
  | 50 => ⟨S4x20000x100, .f32⟩
  | 51 => ⟨S4x20000x1, .f32⟩
  | 52 => ⟨S4x20000x1, .f32⟩
  | 53 => ⟨S4x20000x1, .f32⟩
  | 54 => ⟨S4x20000x1, .f32⟩
  | 55 => ⟨S_, .f32⟩
  | 56 => ⟨S4x20000x1, .f32⟩
  | 57 => ⟨S4x20000x1, .f32⟩
  | 58 => ⟨S4x20000x1, .f32⟩
  | 59 => ⟨S_, .f32⟩
  | 60 => ⟨S4x20000x1, .f32⟩
  | 61 => ⟨S4x20000x1, .f32⟩
  | 62 => ⟨S4x20000x1, .f32⟩
  | 63 => ⟨S_, .f32⟩
  | 64 => ⟨S4x20000x1, .f32⟩
  | 65 => ⟨S4x20000x1, .f32⟩
  | 66 => ⟨S4x20000x1, .f32⟩
  | 67 => ⟨S_, .f32⟩
  | 68 => ⟨S4x20000x1, .f32⟩
  | 69 => ⟨S4x20000x1, .f32⟩
  | 70 => ⟨S4x20000x1, .f32⟩
  | 71 => ⟨S4x20000x4, .f32⟩
  | 72 => ⟨S4x100x1, .f32⟩
  | 73 => ⟨S4x100x1, .f32⟩
  | 74 => ⟨S4x100x1, .f32⟩
  | 75 => ⟨S4x100x1, .f32⟩
  | 76 => ⟨S_, .f32⟩
  | 77 => ⟨S4x100x1, .f32⟩
  | 78 => ⟨S4x100x1, .f32⟩
  | 79 => ⟨S4x100x1, .f32⟩
  | 80 => ⟨S_, .f32⟩
  | 81 => ⟨S4x100x1, .f32⟩
  | 82 => ⟨S4x100x1, .f32⟩
  | 83 => ⟨S4x100x1, .f32⟩
  | 84 => ⟨S_, .f32⟩
  | 85 => ⟨S4x100x1, .f32⟩
  | 86 => ⟨S4x100x1, .f32⟩
  | 87 => ⟨S4x100x1, .f32⟩
  | 88 => ⟨S_, .f32⟩
  | 89 => ⟨S4x100x1, .f32⟩
  | 90 => ⟨S4x100x1, .f32⟩
  | 91 => ⟨S4x100x1, .f32⟩
  | 92 => ⟨S4x100x4, .f32⟩
  | 93 => ⟨S4x20000x1, .f32⟩
  | 94 => ⟨S4x20000, .f32⟩
  | 95 => ⟨S4x20000x1, .f32⟩
  | 96 => ⟨S4x20000, .f32⟩
  | 97 => ⟨S4x20000, .f32⟩
  | 98 => ⟨S4x20000x1, .f32⟩
  | 99 => ⟨S4x20000, .f32⟩
  | 100 => ⟨S4x20000x1, .f32⟩
  | 101 => ⟨S4x20000, .f32⟩
  | 102 => ⟨S4x20000, .f32⟩
  | 103 => ⟨S4x20000, .f32⟩
  | 104 => ⟨S4x100x1, .f32⟩
  | 105 => ⟨S4x100, .f32⟩
  | 106 => ⟨S4x100x1, .f32⟩
  | 107 => ⟨S4x100, .f32⟩
  | 108 => ⟨S4x100, .f32⟩
  | 109 => ⟨S4x100x1, .f32⟩
  | 110 => ⟨S4x100, .f32⟩
  | 111 => ⟨S4x100x1, .f32⟩
  | 112 => ⟨S4x100, .f32⟩
  | 113 => ⟨S4x100, .f32⟩
  | 114 => ⟨S4x100, .f32⟩
  | 115 => ⟨S4x20000x2, .f32⟩
  | 116 => ⟨S4x20000x1x2, .f32⟩
  | 117 => ⟨S4x100x2, .f32⟩
  | 118 => ⟨S4x1x100x2, .f32⟩
  | 119 => ⟨S4x20000x100x2, .f32⟩
  | 120 => ⟨S4x20000x100x2, .f32⟩
  | 121 => ⟨S4x20000x100x2, .f32⟩
  | 122 => ⟨S4x20000x2, .f32⟩
  | 123 => ⟨S4x20000x1x2, .f32⟩
  | 124 => ⟨S4x100x2, .f32⟩
  | 125 => ⟨S4x1x100x2, .f32⟩
  | 126 => ⟨S4x20000x100x2, .f32⟩
  | 127 => ⟨S4x20000x100x2, .f32⟩
  | _ => ⟨S4x20000x81, .f32⟩

abbrev hbmTy0_1 (i : Nat) : BufTy := match i % 128 with
  | 0 => ⟨S4x20000x100x2, .f32⟩
  | 1 => ⟨S4x20000x100x2, .f32⟩
  | 2 => ⟨S_, .f32⟩
  | 3 => ⟨S_, .f32⟩
  | 4 => ⟨S4x20000x100x2, .f32⟩
  | 5 => ⟨S4x20000x100x2, .f32⟩
  | 6 => ⟨S4x20000x100x1, .f32⟩
  | 7 => ⟨S4x20000x100, .f32⟩
  | 8 => ⟨S4x20000x100x1, .f32⟩
  | 9 => ⟨S4x20000x100, .f32⟩
  | 10 => ⟨S4x20000x100, .f32⟩
  | 11 => ⟨S4x20000x1, .f32⟩
  | 12 => ⟨S4x1x100, .f32⟩
  | 13 => ⟨S4x20000x100, .f32⟩
  | 14 => ⟨S4x20000x100, .f32⟩
  | 15 => ⟨S4x20000x100, .f32⟩
  | 16 => ⟨S4x20000x100, .f32⟩
  | 17 => ⟨S_, .f32⟩
  | 18 => ⟨S4x20000x100, .f32⟩
  | 19 => ⟨S4x20000x100, .f32⟩
  | 20 => ⟨S4x20000x100, .f32⟩
  | 21 => ⟨S4x20000x2, .f32⟩
  | 22 => ⟨S4x20000x1x2, .f32⟩
  | 23 => ⟨S4x100x2, .f32⟩
  | 24 => ⟨S4x1x100x2, .f32⟩
  | 25 => ⟨S4x20000x100x2, .f32⟩
  | 26 => ⟨S4x20000x100x2, .f32⟩
  | 27 => ⟨S4x20000x100x2, .f32⟩
  | 28 => ⟨S4x20000x2, .f32⟩
  | 29 => ⟨S4x20000x1x2, .f32⟩
  | 30 => ⟨S4x100x2, .f32⟩
  | 31 => ⟨S4x1x100x2, .f32⟩
  | 32 => ⟨S4x20000x100x2, .f32⟩
  | 33 => ⟨S4x20000x100x2, .f32⟩
  | 34 => ⟨S4x20000x100x2, .f32⟩
  | 35 => ⟨S4x20000x100x2, .f32⟩
  | 36 => ⟨S_, .f32⟩
  | 37 => ⟨S_, .f32⟩
  | 38 => ⟨S4x20000x100x2, .f32⟩
  | 39 => ⟨S4x20000x100x2, .f32⟩
  | 40 => ⟨S4x20000x100x1, .f32⟩
  | 41 => ⟨S4x20000x100, .f32⟩
  | 42 => ⟨S4x20000x100x1, .f32⟩
  | 43 => ⟨S4x20000x100, .f32⟩
  | 44 => ⟨S4x20000x100, .f32⟩
  | 45 => ⟨S4x20000x100, .f32⟩
  | 46 => ⟨S_, .f32⟩
  | 47 => ⟨S4x20000x100, .f32⟩
  | 48 => ⟨S4x20000x100, .f32⟩
  | 49 => ⟨S4x20000x100, .f32⟩
  | 50 => ⟨S4x20000x100, .f32⟩
  | 51 => ⟨S_, .f32⟩
  | 52 => ⟨S4x20000x100, .f32⟩
  | 53 => ⟨S4x20000x100, .f32⟩
  | 54 => ⟨S_, .f32⟩
  | 55 => ⟨S4x20000x100, .f32⟩
  | 56 => ⟨S4x20000x100, .f32⟩
  | 57 => ⟨S4x20000x100, .f32⟩
  | 58 => ⟨S4x20000x100, .f32⟩
  | 59 => ⟨S_, .f32⟩
  | 60 => ⟨S4x20000x100, .f32⟩
  | 61 => ⟨S4x20000x100, .f32⟩
  | 62 => ⟨S4x20000x100, .f32⟩
  | 63 => ⟨S_, .f32⟩
  | 64 => ⟨S4x100, .f32⟩
  | 65 => ⟨S4x20000x100, .i32⟩
  | 66 => ⟨S_, .f32⟩
  | 67 => ⟨S_, .i32⟩
  | 68 => ⟨S4x100, .f32⟩
  | 69 => ⟨S4x100, .i32⟩
  | _ => ⟨S4x20000x81, .f32⟩

abbrev hbmTy (i : Nat) : BufTy := match i / 128 with
  | 0 => hbmTy0_0 i
  | 1 => hbmTy0_1 i
  | _ => ⟨S4x20000x81, .f32⟩

abbrev bufTy : (tb : Table) → Fin (tcTables nBuf tb) → BufTy
  | .hbm, ⟨i, _⟩ => hbmTy i
  | _, _ => ⟨S4x20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_3 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_4 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_6 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_9 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_10 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_11 : Ref sig .tc := ⟨.hbm, 130, rfl⟩
abbrev main_call1_v0 : Ref sig .tc := ⟨.hbm, 131, rfl⟩
abbrev main_call1_v1 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_12 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_13 : Ref sig .tc := ⟨.hbm, 164, rfl⟩
abbrev main_call2_v0 : Ref sig .tc := ⟨.hbm, 165, rfl⟩
abbrev main_call2_v1 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_14 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_15 : Ref sig .tc := ⟨.hbm, 179, rfl⟩
abbrev main_v134 : Ref sig .tc := ⟨.hbm, 180, rfl⟩
abbrev main_v135 : Ref sig .tc := ⟨.hbm, 181, rfl⟩
abbrev main_cst_16 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_17 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_18 : Ref sig .tc := ⟨.hbm, 191, rfl⟩
abbrev main_v143 : Ref sig .tc := ⟨.hbm, 192, rfl⟩
abbrev main_call3_v0 : Ref sig .tc := ⟨.hbm, 193, rfl⟩
abbrev main_call3_cst : Ref sig .tc := ⟨.hbm, 194, rfl⟩
abbrev main_call3_c : Ref sig .tc := ⟨.hbm, 195, rfl⟩
abbrev main_call3_v1_0 : Ref sig .tc := ⟨.hbm, 196, rfl⟩
abbrev main_v144 : Ref sig .tc := ⟨.hbm, 197, rfl⟩

abbrev nD : Nat := 1
abbrev τ : Topo := Topo.v7x

variable {F : FTy → Type} [FloatOps F]
-- ==== Proof.RefDefs.lean ====
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.RunRead
public import Idealize.ShloMosaic.Lib.Pipeline.Frame

/-! The reference, cut into whole-array functions at the values with a meaning of their own: each definition is the
reference's own operations between two such values. -/

@[expose] public section

set_option maxRecDepth 16384

noncomputable section

namespace Cert.ReferenceIdeal.Ref

open Idealize.ShloMosaic Idealize.ShloMosaic.TcCoe Idealize.SL.Sem
open Cert.ReferenceIdeal Cert.ReferenceIdeal.Facts₀ Cert.ReferenceIdeal.Facts

attribute [local instance] Cert.ReferenceIdeal.Gen.facts

/-- Largest logit of each row. -/
def rowMax (X : FVec Ideal S4x20000x81 .f32) : FVec Ideal S4x20000 .f32 :=
  ((maximumf) ((broadcastInDim S4x20000 ![] bcast_S_S4x20000) (constant S_ .f32 0xFF800000#32)) (Host.reduce FloatOps.maximumf X (constant S_ .f32 0xFF800000#32) reducesTo_S4x20000x81_S4x20000_d2 h_S_))

/-- Exponential of each logit less the largest of its row. -/
def expRow (X : FVec Ideal S4x20000x81 .f32) (x_v2 : FVec Ideal S4x20000 .f32) : FVec Ideal S4x20000x81 .f32 :=
  ((Host.exp) ((subf) X ((broadcastInDim S4x20000x81 ![0, 1, 2] bcast_S4x20000x1_S4x20000x81_0_1_2) ((broadcastInDim S4x20000x1 ![0, 1] bcast_S4x20000_S4x20000x1_0_1) x_v2))))

/-- Softmax over the classes. -/
def softmax (x_v6 : FVec Ideal S4x20000x81 .f32) : FVec Ideal S4x20000x81 .f32 :=
  ((Host.divf) x_v6 ((broadcastInDim S4x20000x81 ![0, 1, 2] bcast_S4x20000x1_S4x20000x81_0_1_2) ((broadcastInDim S4x20000x1 ![0, 1] bcast_S4x20000_S4x20000x1_0_1) (Host.reduceAdd x_v6 (constant S_ .f32 0x00000000#32) reducesTo_S4x20000x81_S4x20000_d2 h_S_))))

/-- The class to look up, a negative label counted from the end. -/
def labelIx (L : IVec S4x100 32) : IVec S4x20000x100 32 :=
  (select ((cmpi .slt) ((broadcastInDim S4x20000x100 ![0, 1, 2] bcast_S4x1x100_S4x20000x100_0_1_2) ((broadcastInDim S4x1x100 ![0, 2] bcast_S4x100_S4x1x100_0_2) L)) ((broadcastInDim S4x20000x100 ![] bcast_S_S4x20000x100) (constantI S_ 32 0#32))) (addi ((broadcastInDim S4x20000x100 ![0, 1, 2] bcast_S4x1x100_S4x20000x100_0_1_2) ((broadcastInDim S4x1x100 ![0, 2] bcast_S4x100_S4x1x100_0_2) L)) ((broadcastInDim S4x20000x100 ![] bcast_S_S4x20000x100) (constantI S_ 32 81#32))) ((broadcastInDim S4x20000x100 ![0, 1, 2] bcast_S4x1x100_S4x20000x100_0_1_2) ((broadcastInDim S4x1x100 ![0, 2] bcast_S4x100_S4x1x100_0_2) L)))

/-- The classes to look up, as a column of indices. -/
def labelCol (x_call0_v4 : IVec S4x20000x100 32) : IVec S4x20000x100x1 32 :=
  (shapeCast S4x20000x100x1 x_call0_v4 shapeCasts_S4x20000x100_S4x20000x100x1)

/-- Whether the class to look up exists. -/
def labelOk (x_call0_v5 : IVec S4x20000x100x1 32) : IVec S4x20000x100 1 :=
  (Host.reduce IntOp.andi (andi ((cmpi .sge) x_call0_v5 ((broadcastInDim S4x20000x100x1 ![] bcast_S_S4x20000x100x1) (constantI S_ 32 0#32))) ((cmpi .sle) x_call0_v5 ((broadcastInDim S4x20000x100x1 ![0, 1, 2, 3] bcast_S1x1x1x1_S4x20000x100x1_0_1_2_3) ((broadcastInDim S1x1x1x1 ![3] bcast_S1_S1x1x1x1_3) (constantI S1 32 80#32))))) (constantI S_ 1 1#1) reducesTo_S4x20000x100x1_S4x20000x100_d3 h_S_)

/-- The probability of each label, at each query. -/
def labelProb (x_call0_v12 : IVec S4x20000x100 1) (x_v10 : FVec Ideal S4x20000x81 .f32) (x_call0_v5 : IVec S4x20000x100x1 32) : FVec Ideal S4x20000x100 .f32 :=
  (select x_call0_v12 (Host.gather gather_S4x20000x81_S4x20000x100x1_S4x20000x100_n_2_01_01_2_3_111 x_v10 x_call0_v5) ((broadcastInDim S4x20000x100 ![] bcast_S_S4x20000x100) (constant S_ .f32 0x7FC00000#32)))

/-- The class part of the cost. -/
def classCost (x_v13 : FVec Ideal S4x20000x100 .f32) : FVec Ideal S4x20000x100 .f32 :=
  ((Host.negf) x_v13)

/-- The L1 distance of the two boxes. -/
def boxCost (P : FVec Ideal S4x20000x4 .f32) (G : FVec Ideal S4x100x4 .f32) : FVec Ideal S4x20000x100 .f32 :=
  (Host.reduceAdd ((Host.absf) ((subf) ((broadcastInDim S4x20000x100x4 ![0, 1, 2, 3] bcast_S4x20000x1x4_S4x20000x100x4_0_1_2_3) ((broadcastInDim S4x20000x1x4 ![0, 1, 3] bcast_S4x20000x4_S4x20000x1x4_0_1_3) P)) ((broadcastInDim S4x20000x100x4 ![0, 1, 2, 3] bcast_S4x1x100x4_S4x20000x100x4_0_1_2_3) ((broadcastInDim S4x1x100x4 ![0, 2, 3] bcast_S4x100x4_S4x1x100x4_0_2_3) G)))) (constant S_ .f32 0x00000000#32) reducesTo_S4x20000x100x4_S4x20000x100_d3 h_S_)

/-- Left edge of a predicted box. -/
def pX1 (P : FVec Ideal S4x20000x4 .f32) : FVec Ideal S4x20000x1 .f32 :=
  ((subf) (extractStridedSlice S4x20000x1 ![0, 0, 0] P slices_S4x20000x4_S4x20000x1_0_0_0) ((mulf) ((broadcastInDim S4x20000x1 ![] bcast_S_S4x20000x1) (constant S_ .f32 0x3F000000#32)) (extractStridedSlice S4x20000x1 ![0, 0, 2] P slices_S4x20000x4_S4x20000x1_0_0_2)))

/-- Top edge of a predicted box. -/
def pY1 (P : FVec Ideal S4x20000x4 .f32) : FVec Ideal S4x20000x1 .f32 :=
  ((subf) (extractStridedSlice S4x20000x1 ![0, 0, 1] P slices_S4x20000x4_S4x20000x1_0_0_1) ((mulf) ((broadcastInDim S4x20000x1 ![] bcast_S_S4x20000x1) (constant S_ .f32 0x3F000000#32)) (extractStridedSlice S4x20000x1 ![0, 0, 3] P slices_S4x20000x4_S4x20000x1_0_0_3)))

/-- Right edge of a predicted box. -/
def pX2 (P : FVec Ideal S4x20000x4 .f32) : FVec Ideal S4x20000x1 .f32 :=
  ((addf) (extractStridedSlice S4x20000x1 ![0, 0, 0] P slices_S4x20000x4_S4x20000x1_0_0_0) ((mulf) ((broadcastInDim S4x20000x1 ![] bcast_S_S4x20000x1) (constant S_ .f32 0x3F000000#32)) (extractStridedSlice S4x20000x1 ![0, 0, 2] P slices_S4x20000x4_S4x20000x1_0_0_2)))

/-- Bottom edge of a predicted box. -/
def pY2 (P : FVec Ideal S4x20000x4 .f32) : FVec Ideal S4x20000x1 .f32 :=
  ((addf) (extractStridedSlice S4x20000x1 ![0, 0, 1] P slices_S4x20000x4_S4x20000x1_0_0_1) ((mulf) ((broadcastInDim S4x20000x1 ![] bcast_S_S4x20000x1) (constant S_ .f32 0x3F000000#32)) (extractStridedSlice S4x20000x1 ![0, 0, 3] P slices_S4x20000x4_S4x20000x1_0_0_3)))

/-- The four edges of the predicted boxes. -/
def pCorners (x_v28 : FVec Ideal S4x20000x1 .f32) (x_v31 : FVec Ideal S4x20000x1 .f32) (x_v34 : FVec Ideal S4x20000x1 .f32) (x_v37 : FVec Ideal S4x20000x1 .f32) : FVec Ideal S4x20000x4 .f32 :=
  (concatenate S4x20000x4 2 [⟨S4x20000x1, x_v28⟩, ⟨S4x20000x1, x_v31⟩, ⟨S4x20000x1, x_v34⟩, ⟨S4x20000x1, x_v37⟩] concatenates_S4x20000x1_S4x20000x1_S4x20000x1_S4x20000x1_S4x20000x4_d2)

/-- Left edge of a true box. -/
def gX1 (G : FVec Ideal S4x100x4 .f32) : FVec Ideal S4x100x1 .f32 :=
  ((subf) (extractStridedSlice S4x100x1 ![0, 0, 0] G slices_S4x100x4_S4x100x1_0_0_0) ((mulf) ((broadcastInDim S4x100x1 ![] bcast_S_S4x100x1) (constant S_ .f32 0x3F000000#32)) (extractStridedSlice S4x100x1 ![0, 0, 2] G slices_S4x100x4_S4x100x1_0_0_2)))

/-- Top edge of a true box. -/
def gY1 (G : FVec Ideal S4x100x4 .f32) : FVec Ideal S4x100x1 .f32 :=
  ((subf) (extractStridedSlice S4x100x1 ![0, 0, 1] G slices_S4x100x4_S4x100x1_0_0_1) ((mulf) ((broadcastInDim S4x100x1 ![] bcast_S_S4x100x1) (constant S_ .f32 0x3F000000#32)) (extractStridedSlice S4x100x1 ![0, 0, 3] G slices_S4x100x4_S4x100x1_0_0_3)))

/-- Right edge of a true box. -/
def gX2 (G : FVec Ideal S4x100x4 .f32) : FVec Ideal S4x100x1 .f32 :=
  ((addf) (extractStridedSlice S4x100x1 ![0, 0, 0] G slices_S4x100x4_S4x100x1_0_0_0) ((mulf) ((broadcastInDim S4x100x1 ![] bcast_S_S4x100x1) (constant S_ .f32 0x3F000000#32)) (extractStridedSlice S4x100x1 ![0, 0, 2] G slices_S4x100x4_S4x100x1_0_0_2)))

/-- Bottom edge of a true box. -/
def gY2 (G : FVec Ideal S4x100x4 .f32) : FVec Ideal S4x100x1 .f32 :=
  ((addf) (extractStridedSlice S4x100x1 ![0, 0, 1] G slices_S4x100x4_S4x100x1_0_0_1) ((mulf) ((broadcastInDim S4x100x1 ![] bcast_S_S4x100x1) (constant S_ .f32 0x3F000000#32)) (extractStridedSlice S4x100x1 ![0, 0, 3] G slices_S4x100x4_S4x100x1_0_0_3)))

/-- The four edges of the true boxes. -/
def gCorners (x_v45 : FVec Ideal S4x100x1 .f32) (x_v48 : FVec Ideal S4x100x1 .f32) (x_v51 : FVec Ideal S4x100x1 .f32) (x_v54 : FVec Ideal S4x100x1 .f32) : FVec Ideal S4x100x4 .f32 :=
  (concatenate S4x100x4 2 [⟨S4x100x1, x_v45⟩, ⟨S4x100x1, x_v48⟩, ⟨S4x100x1, x_v51⟩, ⟨S4x100x1, x_v54⟩] concatenates_S4x100x1_S4x100x1_S4x100x1_S4x100x1_S4x100x4_d2)

/-- Area of a predicted box. -/
def pArea (x_v38 : FVec Ideal S4x20000x4 .f32) : FVec Ideal S4x20000 .f32 :=
  ((mulf) ((subf) (shapeCast S4x20000 (extractStridedSlice S4x20000x1 ![0, 0, 2] x_v38 slices_S4x20000x4_S4x20000x1_0_0_2) shapeCasts_S4x20000x1_S4x20000) (shapeCast S4x20000 (extractStridedSlice S4x20000x1 ![0, 0, 0] x_v38 slices_S4x20000x4_S4x20000x1_0_0_0) shapeCasts_S4x20000x1_S4x20000)) ((subf) (shapeCast S4x20000 (extractStridedSlice S4x20000x1 ![0, 0, 3] x_v38 slices_S4x20000x4_S4x20000x1_0_0_3) shapeCasts_S4x20000x1_S4x20000) (shapeCast S4x20000 (extractStridedSlice S4x20000x1 ![0, 0, 1] x_v38 slices_S4x20000x4_S4x20000x1_0_0_1) shapeCasts_S4x20000x1_S4x20000)))

/-- Area of a true box. -/
def gArea (x_v55 : FVec Ideal S4x100x4 .f32) : FVec Ideal S4x100 .f32 :=
  ((mulf) ((subf) (shapeCast S4x100 (extractStridedSlice S4x100x1 ![0, 0, 2] x_v55 slices_S4x100x4_S4x100x1_0_0_2) shapeCasts_S4x100x1_S4x100) (shapeCast S4x100 (extractStridedSlice S4x100x1 ![0, 0, 0] x_v55 slices_S4x100x4_S4x100x1_0_0_0) shapeCasts_S4x100x1_S4x100)) ((subf) (shapeCast S4x100 (extractStridedSlice S4x100x1 ![0, 0, 3] x_v55 slices_S4x100x4_S4x100x1_0_0_3) shapeCasts_S4x100x1_S4x100) (shapeCast S4x100 (extractStridedSlice S4x100x1 ![0, 0, 1] x_v55 slices_S4x100x4_S4x100x1_0_0_1) shapeCasts_S4x100x1_S4x100)))

/-- Sides of the intersection. -/
def interWH (x_v38 : FVec Ideal S4x20000x4 .f32) (x_v55 : FVec Ideal S4x100x4 .f32) : FVec Ideal S4x20000x100x2 .f32 :=
  (maximumf ((broadcastInDim S4x20000x100x2 ![] bcast_S_S4x20000x100x2) (constant S_ .f32 0x00000000#32)) ((subf) ((minimumf) ((broadcastInDim S4x20000x100x2 ![0, 1, 2, 3] bcast_S4x20000x1x2_S4x20000x100x2_0_1_2_3) ((broadcastInDim S4x20000x1x2 ![0, 1, 3] bcast_S4x20000x2_S4x20000x1x2_0_1_3) (extractStridedSlice S4x20000x2 ![0, 0, 2] x_v38 slices_S4x20000x4_S4x20000x2_0_0_2))) ((broadcastInDim S4x20000x100x2 ![0, 1, 2, 3] bcast_S4x1x100x2_S4x20000x100x2_0_1_2_3) ((broadcastInDim S4x1x100x2 ![0, 2, 3] bcast_S4x100x2_S4x1x100x2_0_2_3) (extractStridedSlice S4x100x2 ![0, 0, 2] x_v55 slices_S4x100x4_S4x100x2_0_0_2)))) ((maximumf) ((broadcastInDim S4x20000x100x2 ![0, 1, 2, 3] bcast_S4x20000x1x2_S4x20000x100x2_0_1_2_3) ((broadcastInDim S4x20000x1x2 ![0, 1, 3] bcast_S4x20000x2_S4x20000x1x2_0_1_3) (extractStridedSlice S4x20000x2 ![0, 0, 0] x_v38 slices_S4x20000x4_S4x20000x2_0_0_0))) ((broadcastInDim S4x20000x100x2 ![0, 1, 2, 3] bcast_S4x1x100x2_S4x20000x100x2_0_1_2_3) ((broadcastInDim S4x1x100x2 ![0, 2, 3] bcast_S4x100x2_S4x1x100x2_0_2_3) (extractStridedSlice S4x100x2 ![0, 0, 0] x_v55 slices_S4x100x4_S4x100x2_0_0_0))))))

/-- Area of the intersection. -/
def inter (x_v93 : FVec Ideal S4x20000x100x2 .f32) : FVec Ideal S4x20000x100 .f32 :=
  ((mulf) (shapeCast S4x20000x100 (extractStridedSlice S4x20000x100x1 ![0, 0, 0, 0] x_v93 slices_S4x20000x100x2_S4x20000x100x1_0_0_0_0) shapeCasts_S4x20000x100x1_S4x20000x100) (shapeCast S4x20000x100 (extractStridedSlice S4x20000x100x1 ![0, 0, 0, 1] x_v93 slices_S4x20000x100x2_S4x20000x100x1_0_0_0_1) shapeCasts_S4x20000x100x1_S4x20000x100))

/-- Area of the union. -/
def union (x_v66 : FVec Ideal S4x20000 .f32) (x_v77 : FVec Ideal S4x100 .f32) (x_v98 : FVec Ideal S4x20000x100 .f32) : FVec Ideal S4x20000x100 .f32 :=
  ((subf) ((addf) ((broadcastInDim S4x20000x100 ![0, 1, 2] bcast_S4x20000x1_S4x20000x100_0_1_2) ((broadcastInDim S4x20000x1 ![0, 1] bcast_S4x20000_S4x20000x1_0_1) x_v66)) ((broadcastInDim S4x20000x100 ![0, 1, 2] bcast_S4x1x100_S4x20000x100_0_1_2) ((broadcastInDim S4x1x100 ![0, 2] bcast_S4x100_S4x1x100_0_2) x_v77))) x_v98)

/-- Intersection over union. -/
def iou (x_v98 : FVec Ideal S4x20000x100 .f32) (x_v104 : FVec Ideal S4x20000x100 .f32) : FVec Ideal S4x20000x100 .f32 :=
  ((Host.divf) x_v98 ((addf) x_v104 ((broadcastInDim S4x20000x100 ![] bcast_S_S4x20000x100) (constant S_ .f32 0x322BCC77#32))))

/-- Sides of the enclosing box. -/
def hullWH (x_v38 : FVec Ideal S4x20000x4 .f32) (x_v55 : FVec Ideal S4x100x4 .f32) : FVec Ideal S4x20000x100x2 .f32 :=
  (maximumf ((broadcastInDim S4x20000x100x2 ![] bcast_S_S4x20000x100x2) (constant S_ .f32 0x00000000#32)) ((subf) ((maximumf) ((broadcastInDim S4x20000x100x2 ![0, 1, 2, 3] bcast_S4x20000x1x2_S4x20000x100x2_0_1_2_3) ((broadcastInDim S4x20000x1x2 ![0, 1, 3] bcast_S4x20000x2_S4x20000x1x2_0_1_3) (extractStridedSlice S4x20000x2 ![0, 0, 2] x_v38 slices_S4x20000x4_S4x20000x2_0_0_2))) ((broadcastInDim S4x20000x100x2 ![0, 1, 2, 3] bcast_S4x1x100x2_S4x20000x100x2_0_1_2_3) ((broadcastInDim S4x1x100x2 ![0, 2, 3] bcast_S4x100x2_S4x1x100x2_0_2_3) (extractStridedSlice S4x100x2 ![0, 0, 2] x_v55 slices_S4x100x4_S4x100x2_0_0_2)))) ((minimumf) ((broadcastInDim S4x20000x100x2 ![0, 1, 2, 3] bcast_S4x20000x1x2_S4x20000x100x2_0_1_2_3) ((broadcastInDim S4x20000x1x2 ![0, 1, 3] bcast_S4x20000x2_S4x20000x1x2_0_1_3) (extractStridedSlice S4x20000x2 ![0, 0, 0] x_v38 slices_S4x20000x4_S4x20000x2_0_0_0))) ((broadcastInDim S4x20000x100x2 ![0, 1, 2, 3] bcast_S4x1x100x2_S4x20000x100x2_0_1_2_3) ((broadcastInDim S4x1x100x2 ![0, 2, 3] bcast_S4x100x2_S4x1x100x2_0_2_3) (extractStridedSlice S4x100x2 ![0, 0, 0] x_v55 slices_S4x100x4_S4x100x2_0_0_0))))))

/-- Area of the enclosing box. -/
def hull (x_v123 : FVec Ideal S4x20000x100x2 .f32) : FVec Ideal S4x20000x100 .f32 :=
  ((mulf) (shapeCast S4x20000x100 (extractStridedSlice S4x20000x100x1 ![0, 0, 0, 0] x_v123 slices_S4x20000x100x2_S4x20000x100x1_0_0_0_0) shapeCasts_S4x20000x100x1_S4x20000x100) (shapeCast S4x20000x100 (extractStridedSlice S4x20000x100x1 ![0, 0, 0, 1] x_v123 slices_S4x20000x100x2_S4x20000x100x1_0_0_0_1) shapeCasts_S4x20000x100x1_S4x20000x100))

/-- The generalized intersection over union. -/
def giou (x_v107 : FVec Ideal S4x20000x100 .f32) (x_v128 : FVec Ideal S4x20000x100 .f32) (x_v104 : FVec Ideal S4x20000x100 .f32) : FVec Ideal S4x20000x100 .f32 :=
  ((subf) x_v107 ((Host.divf) ((subf) x_v128 x_v104) ((addf) x_v128 ((broadcastInDim S4x20000x100 ![] bcast_S_S4x20000x100) (constant S_ .f32 0x322BCC77#32)))))

/-- The matching cost. -/
def cost (x_v21 : FVec Ideal S4x20000x100 .f32) (x_v14 : FVec Ideal S4x20000x100 .f32) (x_v133 : FVec Ideal S4x20000x100 .f32) : FVec Ideal S4x20000x100 .f32 :=
  ((addf) ((addf) ((mulf) ((broadcastInDim S4x20000x100 ![] bcast_S_S4x20000x100) (constant S_ .f32 0x40A00000#32)) x_v21) ((mulf) ((broadcastInDim S4x20000x100 ![] bcast_S_S4x20000x100) (constant S_ .f32 0x3F800000#32)) x_v14)) ((mulf) ((broadcastInDim S4x20000x100 ![] bcast_S_S4x20000x100) (constant S_ .f32 0x40000000#32)) ((Host.negf) x_v133)))

/-- The least cost over the queries. -/
def minCost (x_v142 : FVec Ideal S4x20000x100 .f32) : FVec Ideal S4x100 .f32 :=
  (Host.reduce FloatOps.minimumf x_v142 (constant S_ .f32 0x7F800000#32) reducesTo_S4x20000x100_S4x100_d1 h_S_)

/-- The first query of least cost. -/
def minIdx (x_v142 : FVec Ideal S4x20000x100 .f32) : IVec S4x100 32 :=
  (fun j => (Host.argReduce reducer_argmin_f32_i32 x_v142 (iotaInDim S4x20000x100 32 1) (constant S_ .f32 0x7F800000#32) (constantI S_ 32 0#32) reducesTo_S4x20000x100_S4x100_d1 h_S_ j).2)

end Cert.ReferenceIdeal.Ref

end

end
-- ==== Proof.RefOps.lean ====
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.RunRead
public import Idealize.ShloMosaic.Lib.Pipeline.Frame

/-! The reference's operations as lists, one list to a part. -/

@[expose] public section

set_option maxRecDepth 16384

noncomputable section

namespace Cert.ReferenceIdeal.Ref

open Idealize.ShloMosaic Idealize.ShloMosaic.TcCoe Idealize.SL.Sem
open Cert.ReferenceIdeal Cert.ReferenceIdeal.Facts₀ Cert.ReferenceIdeal.Facts

attribute [local instance] Cert.ReferenceIdeal.Gen.facts

variable {F : FTy → Type} [FloatOps F]

/-- Operations of the reference, part A: up to `main_v10`. -/
abbrev segA : List (HloOp τ sig (Elt F)) :=
  [ StableHlo.nullary main_cst (constant S_ .f32 0xFF800000#32),
    StableHlo.binary main_arg0 main_cst main_v0 ((fun x v => Host.reduce FloatOps.maximumf x v reducesTo_S4x20000x81_S4x20000_d2 h_S_) : (⟨S4x20000x81, .f32⟩ : BufTy).Contents (Elt F) → (⟨S_, .f32⟩ : BufTy).Contents (Elt F) → (⟨S4x20000, .f32⟩ : BufTy).Contents (Elt F)),
    StableHlo.nullary main_cst_0 (constant S_ .f32 0xFF800000#32),
    StableHlo.unary main_cst_0 main_v1 (broadcastInDim S4x20000 ![] bcast_S_S4x20000 : (⟨S_, .f32⟩ : BufTy).Contents (Elt F) → (⟨S4x20000, .f32⟩ : BufTy).Contents (Elt F)),
    StableHlo.binary main_v1 main_v0 main_v2 (maximumf : (⟨S4x20000, .f32⟩ : BufTy).Contents (Elt F) → (⟨S4x20000, .f32⟩ : BufTy).Contents (Elt F) → (⟨S4x20000, .f32⟩ : BufTy).Contents (Elt F)),
    StableHlo.unary main_v2 main_v3 (broadcastInDim S4x20000x1 ![0, 1] bcast_S4x20000_S4x20000x1_0_1 : (⟨S4x20000, .f32⟩ : BufTy).Contents (Elt F) → (⟨S4x20000x1, .f32⟩ : BufTy).Contents (Elt F)),
    StableHlo.unary main_v3 main_v4 (broadcastInDim S4x20000x81 ![0, 1, 2] bcast_S4x20000x1_S4x20000x81_0_1_2 : (⟨S4x20000x1, .f32⟩ : BufTy).Contents (Elt F) → (⟨S4x20000x81, .f32⟩ : BufTy).Contents (Elt F)),
    StableHlo.binary main_arg0 main_v4 main_v5 (subf : (⟨S4x20000x81, .f32⟩ : BufTy).Contents (Elt F) → (⟨S4x20000x81, .f32⟩ : BufTy).Contents (Elt F) → (⟨S4x20000x81, .f32⟩ : BufTy).Contents (Elt F)),
    StableHlo.unary main_v5 main_v6 (Host.exp : (⟨S4x20000x81, .f32⟩ : BufTy).Contents (Elt F) → (⟨S4x20000x81, .f32⟩ : BufTy).Contents (Elt F)),
    StableHlo.nullary main_cst_1 (constant S_ .f32 0x00000000#32),
    StableHlo.binary main_v6 main_cst_1 main_v7 ((fun x v => Host.reduceAdd x v reducesTo_S4x20000x81_S4x20000_d2 h_S_) : (⟨S4x20000x81, .f32⟩ : BufTy).Contents (Elt F) → (⟨S_, .f32⟩ : BufTy).Contents (Elt F) → (⟨S4x20000, .f32⟩ : BufTy).Contents (Elt F)),
    StableHlo.unary main_v7 main_v8 (broadcastInDim S4x20000x1 ![0, 1] bcast_S4x20000_S4x20000x1_0_1 : (⟨S4x20000, .f32⟩ : BufTy).Contents (Elt F) → (⟨S4x20000x1, .f32⟩ : BufTy).Contents (Elt F)),
    StableHlo.unary main_v8 main_v9 (broadcastInDim S4x20000x81 ![0, 1, 2] bcast_S4x20000x1_S4x20000x81_0_1_2 : (⟨S4x20000x1, .f32⟩ : BufTy).Contents (Elt F) → (⟨S4x20000x81, .f32⟩ : BufTy).Contents (Elt F)),
    StableHlo.binary main_v6 main_v9 main_v10 (Host.divf : (⟨S4x20000x81, .f32⟩ : BufTy).Contents (Elt F) → (⟨S4x20000x81, .f32⟩ : BufTy).Contents (Elt F) → (⟨S4x20000x81, .f32⟩ : BufTy).Contents (Elt F)) ]

/-- Operations of the reference, part B: up to `main_call0_v4`. -/
abbrev segB : List (HloOp τ sig (Elt F)) :=
  [ StableHlo.unary main_arg3 main_v11 (broadcastInDim S4x1x100 ![0, 2] bcast_S4x100_S4x1x100_0_2 : (⟨S4x100, .i32⟩ : BufTy).Contents (Elt F) → (⟨S4x1x100, .i32⟩ : BufTy).Contents (Elt F)),
    StableHlo.unary main_v11 main_v12 (broadcastInDim S4x20000x100 ![0, 1, 2] bcast_S4x1x100_S4x20000x100_0_1_2 : (⟨S4x1x100, .i32⟩ : BufTy).Contents (Elt F) → (⟨S4x20000x100, .i32⟩ : BufTy).Contents (Elt F)),
    StableHlo.TRef.nullary main_call0.c (constantI S_ 32 0#32),
    StableHlo.TRef.unary main_call0.c main_call0.v0 (broadcastInDim S4x20000x100 ![] bcast_S_S4x20000x100),
    StableHlo.TRef.binary (.of main_v12 : StableHlo.TRef sig ⟨S4x20000x100, .i32⟩) main_call0.v0 main_call0.v1 (cmpi .slt),
    StableHlo.TRef.nullary main_call0.c_0 (constantI S_ 32 81#32),
    StableHlo.TRef.unary main_call0.c_0 main_call0.v2 (broadcastInDim S4x20000x100 ![] bcast_S_S4x20000x100),
    StableHlo.TRef.binary (.of main_v12 : StableHlo.TRef sig ⟨S4x20000x100, .i32⟩) main_call0.v2 main_call0.v3 addi,
    StableHlo.TRef.ternary main_call0.v1 main_call0.v3 (.of main_v12 : StableHlo.TRef sig ⟨S4x20000x100, .i32⟩) main_call0.v4 select ]

/-- Operations of the reference, part K: up to `main_call0_v5`. -/
abbrev segK : List (HloOp τ sig (Elt F)) :=
  [ StableHlo.TRef.reshape main_call0.v4 main_call0.v5 (rfl : (.i32 : EltTy) = .i32) shapeCasts_S4x20000x100_S4x20000x100x1 ]

/-- Operations of the reference, part L: up to `main_call0_v12`. -/
abbrev segL : List (HloOp τ sig (Elt F)) :=
  [ StableHlo.TRef.nullary main_call0.c_1 (constantI S1 32 80#32),
    StableHlo.TRef.nullary main_call0.c_2 (constantI S_ 32 0#32),
    StableHlo.TRef.unary main_call0.c_2 main_call0.v6 (broadcastInDim S4x20000x100x1 ![] bcast_S_S4x20000x100x1),
    StableHlo.TRef.binary main_call0.v5 main_call0.v6 main_call0.v7 (cmpi .sge),
    StableHlo.TRef.unary main_call0.c_1 main_call0.v8 (broadcastInDim S1x1x1x1 ![3] bcast_S1_S1x1x1x1_3),
    StableHlo.TRef.unary main_call0.v8 main_call0.v9 (broadcastInDim S4x20000x100x1 ![0, 1, 2, 3] bcast_S1x1x1x1_S4x20000x100x1_0_1_2_3),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4x20000x100x1_S4x20000x100_d3 h_S_) ]

/-- Operations of the reference, part M: up to `main_v14`. -/
abbrev segM : List (HloOp τ sig (Elt F)) :=
  [ StableHlo.TRef.binary (.of main_v10 : StableHlo.TRef sig ⟨S4x20000x81, .f32⟩) main_call0.v5 main_call0.v13 (fun x i => Host.gather gather_S4x20000x81_S4x20000x100x1_S4x20000x100_n_2_01_01_2_3_111 x i),
    StableHlo.TRef.nullary main_call0.cst (constant S_ .f32 0x7FC00000#32),
    StableHlo.TRef.unary main_call0.cst main_call0.v14 (broadcastInDim S4x20000x100 ![] bcast_S_S4x20000x100),
    StableHlo.TRef.ternary main_call0.v12 main_call0.v13 main_call0.v14 main_call0.v15 select,
    StableHlo.unary main_v13 main_v14 (Host.negf : (⟨S4x20000x100, .f32⟩ : BufTy).Contents (Elt F) → (⟨S4x20000x100, .f32⟩ : BufTy).Contents (Elt F)) ]

/-- Operations of the reference, part C: up to `main_v21`. -/
abbrev segC : List (HloOp τ sig (Elt F)) :=
  [ StableHlo.unary main_arg1 main_v15 (broadcastInDim S4x20000x1x4 ![0, 1, 3] bcast_S4x20000x4_S4x20000x1x4_0_1_3 : (⟨S4x20000x4, .f32⟩ : BufTy).Contents (Elt F) → (⟨S4x20000x1x4, .f32⟩ : BufTy).Contents (Elt F)),
    StableHlo.unary main_arg2 main_v16 (broadcastInDim S4x1x100x4 ![0, 2, 3] bcast_S4x100x4_S4x1x100x4_0_2_3 : (⟨S4x100x4, .f32⟩ : BufTy).Contents (Elt F) → (⟨S4x1x100x4, .f32⟩ : BufTy).Contents (Elt F)),
    StableHlo.unary main_v15 main_v17 (broadcastInDim S4x20000x100x4 ![0, 1, 2, 3] bcast_S4x20000x1x4_S4x20000x100x4_0_1_2_3 : (⟨S4x20000x1x4, .f32⟩ : BufTy).Contents (Elt F) → (⟨S4x20000x100x4, .f32⟩ : BufTy).Contents (Elt F)),
    StableHlo.unary main_v16 main_v18 (broadcastInDim S4x20000x100x4 ![0, 1, 2, 3] bcast_S4x1x100x4_S4x20000x100x4_0_1_2_3 : (⟨S4x1x100x4, .f32⟩ : BufTy).Contents (Elt F) → (⟨S4x20000x100x4, .f32⟩ : BufTy).Contents (Elt F)),
    StableHlo.binary main_v17 main_v18 main_v19 (subf : (⟨S4x20000x100x4, .f32⟩ : BufTy).Contents (Elt F) → (⟨S4x20000x100x4, .f32⟩ : BufTy).Contents (Elt F) → (⟨S4x20000x100x4, .f32⟩ : BufTy).Contents (Elt F)),
    StableHlo.unary main_v19 main_v20 (Host.absf : (⟨S4x20000x100x4, .f32⟩ : BufTy).Contents (Elt F) → (⟨S4x20000x100x4, .f32⟩ : BufTy).Contents (Elt F)),
    StableHlo.nullary main_cst_2 (constant S_ .f32 0x00000000#32),
    StableHlo.binary main_v20 main_cst_2 main_v21 ((fun x v => Host.reduceAdd x v reducesTo_S4x20000x100x4_S4x20000x100_d3 h_S_) : (⟨S4x20000x100x4, .f32⟩ : BufTy).Contents (Elt F) → (⟨S_, .f32⟩ : BufTy).Contents (Elt F) → (⟨S4x20000x100, .f32⟩ : BufTy).Contents (Elt F)) ]

/-- Operations of the reference, part D: up to `main_v38`. -/
abbrev segD : List (HloOp τ sig (Elt F)) :=
  [ StableHlo.unary main_arg1 main_v22 ((extractStridedSlice S4x20000x1 ![0, 0, 0] · slices_S4x20000x4_S4x20000x1_0_0_0) : (⟨S4x20000x4, .f32⟩ : BufTy).Contents (Elt F) → (⟨S4x20000x1, .f32⟩ : BufTy).Contents (Elt F)),
    StableHlo.unary main_arg1 main_v23 ((extractStridedSlice S4x20000x1 ![0, 0, 1] · slices_S4x20000x4_S4x20000x1_0_0_1) : (⟨S4x20000x4, .f32⟩ : BufTy).Contents (Elt F) → (⟨S4x20000x1, .f32⟩ : BufTy).Contents (Elt F)),
    StableHlo.unary main_arg1 main_v24 ((extractStridedSlice S4x20000x1 ![0, 0, 2] · slices_S4x20000x4_S4x20000x1_0_0_2) : (⟨S4x20000x4, .f32⟩ : BufTy).Contents (Elt F) → (⟨S4x20000x1, .f32⟩ : BufTy).Contents (Elt F)),
    StableHlo.unary main_arg1 main_v25 ((extractStridedSlice S4x20000x1 ![0, 0, 3] · slices_S4x20000x4_S4x20000x1_0_0_3) : (⟨S4x20000x4, .f32⟩ : BufTy).Contents (Elt F) → (⟨S4x20000x1, .f32⟩ : BufTy).Contents (Elt F)),
    StableHlo.nullary main_cst_3 (constant S_ .f32 0x3F000000#32),
    StableHlo.unary main_cst_3 main_v26 (broadcastInDim S4x20000x1 ![] bcast_S_S4x20000x1 : (⟨S_, .f32⟩ : BufTy).Contents (Elt F) → (⟨S4x20000x1, .f32⟩ : BufTy).Contents (Elt F)),
    StableHlo.binary main_v26 main_v24 main_v27 (mulf : (⟨S4x20000x1, .f32⟩ : BufTy).Contents (Elt F) → (⟨S4x20000x1, .f32⟩ : BufTy).Contents (Elt F) → (⟨S4x20000x1, .f32⟩ : BufTy).Contents (Elt F)),
    StableHlo.binary main_v22 main_v27 main_v28 (subf : (⟨S4x20000x1, .f32⟩ : BufTy).Contents (Elt F) → (⟨S4x20000x1, .f32⟩ : BufTy).Contents (Elt F) → (⟨S4x20000x1, .f32⟩ : BufTy).Contents (Elt F)),
    StableHlo.nullary main_cst_4 (constant S_ .f32 0x3F000000#32),
    StableHlo.unary main_cst_4 main_v29 (broadcastInDim S4x20000x1 ![] bcast_S_S4x20000x1 : (⟨S_, .f32⟩ : BufTy).Contents (Elt F) → (⟨S4x20000x1, .f32⟩ : BufTy).Contents (Elt F)),
    StableHlo.binary main_v29 main_v25 main_v30 (mulf : (⟨S4x20000x1, .f32⟩ : BufTy).Contents (Elt F) → (⟨S4x20000x1, .f32⟩ : BufTy).Contents (Elt F) → (⟨S4x20000x1, .f32⟩ : BufTy).Contents (Elt F)),
    StableHlo.binary main_v23 main_v30 main_v31 (subf : (⟨S4x20000x1, .f32⟩ : BufTy).Contents (Elt F) → (⟨S4x20000x1, .f32⟩ : BufTy).Contents (Elt F) → (⟨S4x20000x1, .f32⟩ : BufTy).Contents (Elt F)),
    StableHlo.nullary main_cst_5 (constant S_ .f32 0x3F000000#32),
    StableHlo.unary main_cst_5 main_v32 (broadcastInDim S4x20000x1 ![] bcast_S_S4x20000x1 : (⟨S_, .f32⟩ : BufTy).Contents (Elt F) → (⟨S4x20000x1, .f32⟩ : BufTy).Contents (Elt F)),
    StableHlo.binary main_v32 main_v24 main_v33 (mulf : (⟨S4x20000x1, .f32⟩ : BufTy).Contents (Elt F) → (⟨S4x20000x1, .f32⟩ : BufTy).Contents (Elt F) → (⟨S4x20000x1, .f32⟩ : BufTy).Contents (Elt F)),
    StableHlo.binary main_v22 main_v33 main_v34 (addf : (⟨S4x20000x1, .f32⟩ : BufTy).Contents (Elt F) → (⟨S4x20000x1, .f32⟩ : BufTy).Contents (Elt F) → (⟨S4x20000x1, .f32⟩ : BufTy).Contents (Elt F)),
    StableHlo.nullary main_cst_6 (constant S_ .f32 0x3F000000#32),
    StableHlo.unary main_cst_6 main_v35 (broadcastInDim S4x20000x1 ![] bcast_S_S4x20000x1 : (⟨S_, .f32⟩ : BufTy).Contents (Elt F) → (⟨S4x20000x1, .f32⟩ : BufTy).Contents (Elt F)),
    StableHlo.binary main_v35 main_v25 main_v36 (mulf : (⟨S4x20000x1, .f32⟩ : BufTy).Contents (Elt F) → (⟨S4x20000x1, .f32⟩ : BufTy).Contents (Elt F) → (⟨S4x20000x1, .f32⟩ : BufTy).Contents (Elt F)),
    StableHlo.binary main_v23 main_v36 main_v37 (addf : (⟨S4x20000x1, .f32⟩ : BufTy).Contents (Elt F) → (⟨S4x20000x1, .f32⟩ : BufTy).Contents (Elt F) → (⟨S4x20000x1, .f32⟩ : BufTy).Contents (Elt F)),
    StableHlo.nary ![main_v28, main_v31, main_v34, main_v37] main_v38 (fun u => (concatenate S4x20000x4 2 [⟨S4x20000x1, (u 0 : (⟨S4x20000x1, .f32⟩ : BufTy).Contents (Elt F))⟩, ⟨S4x20000x1, (u 1 : (⟨S4x20000x1, .f32⟩ : BufTy).Contents (Elt F))⟩, ⟨S4x20000x1, (u 2 : (⟨S4x20000x1, .f32⟩ : BufTy).Contents (Elt F))⟩, ⟨S4x20000x1, (u 3 : (⟨S4x20000x1, .f32⟩ : BufTy).Contents (Elt F))⟩] concatenates_S4x20000x1_S4x20000x1_S4x20000x1_S4x20000x1_S4x20000x4_d2 : (⟨S4x20000x4, .f32⟩ : BufTy).Contents (Elt F))) ]

/-- Operations of the reference, part E: up to `main_v55`. -/
abbrev segE : List (HloOp τ sig (Elt F)) :=
  [ StableHlo.unary main_arg2 main_v39 ((extractStridedSlice S4x100x1 ![0, 0, 0] · slices_S4x100x4_S4x100x1_0_0_0) : (⟨S4x100x4, .f32⟩ : BufTy).Contents (Elt F) → (⟨S4x100x1, .f32⟩ : BufTy).Contents (Elt F)),
    StableHlo.unary main_arg2 main_v40 ((extractStridedSlice S4x100x1 ![0, 0, 1] · slices_S4x100x4_S4x100x1_0_0_1) : (⟨S4x100x4, .f32⟩ : BufTy).Contents (Elt F) → (⟨S4x100x1, .f32⟩ : BufTy).Contents (Elt F)),
    StableHlo.unary main_arg2 main_v41 ((extractStridedSlice S4x100x1 ![0, 0, 2] · slices_S4x100x4_S4x100x1_0_0_2) : (⟨S4x100x4, .f32⟩ : BufTy).Contents (Elt F) → (⟨S4x100x1, .f32⟩ : BufTy).Contents (Elt F)),
    StableHlo.unary main_arg2 main_v42 ((extractStridedSlice S4x100x1 ![0, 0, 3] · slices_S4x100x4_S4x100x1_0_0_3) : (⟨S4x100x4, .f32⟩ : BufTy).Contents (Elt F) → (⟨S4x100x1, .f32⟩ : BufTy).Contents (Elt F)),
    StableHlo.nullary main_cst_7 (constant S_ .f32 0x3F000000#32),
    StableHlo.unary main_cst_7 main_v43 (broadcastInDim S4x100x1 ![] bcast_S_S4x100x1 : (⟨S_, .f32⟩ : BufTy).Contents (Elt F) → (⟨S4x100x1, .f32⟩ : BufTy).Contents (Elt F)),
    StableHlo.binary main_v43 main_v41 main_v44 (mulf : (⟨S4x100x1, .f32⟩ : BufTy).Contents (Elt F) → (⟨S4x100x1, .f32⟩ : BufTy).Contents (Elt F) → (⟨S4x100x1, .f32⟩ : BufTy).Contents (Elt F)),
    StableHlo.binary main_v39 main_v44 main_v45 (subf : (⟨S4x100x1, .f32⟩ : BufTy).Contents (Elt F) → (⟨S4x100x1, .f32⟩ : BufTy).Contents (Elt F) → (⟨S4x100x1, .f32⟩ : BufTy).Contents (Elt F)),
    StableHlo.nullary main_cst_8 (constant S_ .f32 0x3F000000#32),
    StableHlo.unary main_cst_8 main_v46 (broadcastInDim S4x100x1 ![] bcast_S_S4x100x1 : (⟨S_, .f32⟩ : BufTy).Contents (Elt F) → (⟨S4x100x1, .f32⟩ : BufTy).Contents (Elt F)),
    StableHlo.binary main_v46 main_v42 main_v47 (mulf : (⟨S4x100x1, .f32⟩ : BufTy).Contents (Elt F) → (⟨S4x100x1, .f32⟩ : BufTy).Contents (Elt F) → (⟨S4x100x1, .f32⟩ : BufTy).Contents (Elt F)),
    StableHlo.binary main_v40 main_v47 main_v48 (subf : (⟨S4x100x1, .f32⟩ : BufTy).Contents (Elt F) → (⟨S4x100x1, .f32⟩ : BufTy).Contents (Elt F) → (⟨S4x100x1, .f32⟩ : BufTy).Contents (Elt F)),
    StableHlo.nullary main_cst_9 (constant S_ .f32 0x3F000000#32),
    StableHlo.unary main_cst_9 main_v49 (broadcastInDim S4x100x1 ![] bcast_S_S4x100x1 : (⟨S_, .f32⟩ : BufTy).Contents (Elt F) → (⟨S4x100x1, .f32⟩ : BufTy).Contents (Elt F)),
    StableHlo.binary main_v49 main_v41 main_v50 (mulf : (⟨S4x100x1, .f32⟩ : BufTy).Contents (Elt F) → (⟨S4x100x1, .f32⟩ : BufTy).Contents (Elt F) → (⟨S4x100x1, .f32⟩ : BufTy).Contents (Elt F)),
    StableHlo.binary main_v39 main_v50 main_v51 (addf : (⟨S4x100x1, .f32⟩ : BufTy).Contents (Elt F) → (⟨S4x100x1, .f32⟩ : BufTy).Contents (Elt F) → (⟨S4x100x1, .f32⟩ : BufTy).Contents (Elt F)),
    StableHlo.nullary main_cst_10 (constant S_ .f32 0x3F000000#32),
    StableHlo.unary main_cst_10 main_v52 (broadcastInDim S4x100x1 ![] bcast_S_S4x100x1 : (⟨S_, .f32⟩ : BufTy).Contents (Elt F) → (⟨S4x100x1, .f32⟩ : BufTy).Contents (Elt F)),
    StableHlo.binary main_v52 main_v42 main_v53 (mulf : (⟨S4x100x1, .f32⟩ : BufTy).Contents (Elt F) → (⟨S4x100x1, .f32⟩ : BufTy).Contents (Elt F) → (⟨S4x100x1, .f32⟩ : BufTy).Contents (Elt F)),
    StableHlo.binary main_v40 main_v53 main_v54 (addf : (⟨S4x100x1, .f32⟩ : BufTy).Contents (Elt F) → (⟨S4x100x1, .f32⟩ : BufTy).Contents (Elt F) → (⟨S4x100x1, .f32⟩ : BufTy).Contents (Elt F)),
    StableHlo.nary ![main_v45, main_v48, main_v51, main_v54] main_v55 (fun u => (concatenate S4x100x4 2 [⟨S4x100x1, (u 0 : (⟨S4x100x1, .f32⟩ : BufTy).Contents (Elt F))⟩, ⟨S4x100x1, (u 1 : (⟨S4x100x1, .f32⟩ : BufTy).Contents (Elt F))⟩, ⟨S4x100x1, (u 2 : (⟨S4x100x1, .f32⟩ : BufTy).Contents (Elt F))⟩, ⟨S4x100x1, (u 3 : (⟨S4x100x1, .f32⟩ : BufTy).Contents (Elt F))⟩] concatenates_S4x100x1_S4x100x1_S4x100x1_S4x100x1_S4x100x4_d2 : (⟨S4x100x4, .f32⟩ : BufTy).Contents (Elt F))) ]

/-- Operations of the reference, part F: up to `main_v77`. -/
abbrev segF : List (HloOp τ sig (Elt F)) :=
  [ StableHlo.unary main_v38 main_v56 ((extractStridedSlice S4x20000x1 ![0, 0, 2] · slices_S4x20000x4_S4x20000x1_0_0_2) : (⟨S4x20000x4, .f32⟩ : BufTy).Contents (Elt F) → (⟨S4x20000x1, .f32⟩ : BufTy).Contents (Elt F)),
    StableHlo.reshape main_v56 main_v57 (rfl : (.f32 : EltTy) = .f32) shapeCasts_S4x20000x1_S4x20000,
    StableHlo.unary main_v38 main_v58 ((extractStridedSlice S4x20000x1 ![0, 0, 0] · slices_S4x20000x4_S4x20000x1_0_0_0) : (⟨S4x20000x4, .f32⟩ : BufTy).Contents (Elt F) → (⟨S4x20000x1, .f32⟩ : BufTy).Contents (Elt F)),
    StableHlo.reshape main_v58 main_v59 (rfl : (.f32 : EltTy) = .f32) shapeCasts_S4x20000x1_S4x20000,
    StableHlo.binary main_v57 main_v59 main_v60 (subf : (⟨S4x20000, .f32⟩ : BufTy).Contents (Elt F) → (⟨S4x20000, .f32⟩ : BufTy).Contents (Elt F) → (⟨S4x20000, .f32⟩ : BufTy).Contents (Elt F)),
    StableHlo.unary main_v38 main_v61 ((extractStridedSlice S4x20000x1 ![0, 0, 3] · slices_S4x20000x4_S4x20000x1_0_0_3) : (⟨S4x20000x4, .f32⟩ : BufTy).Contents (Elt F) → (⟨S4x20000x1, .f32⟩ : BufTy).Contents (Elt F)),
    StableHlo.reshape main_v61 main_v62 (rfl : (.f32 : EltTy) = .f32) shapeCasts_S4x20000x1_S4x20000,
    StableHlo.unary main_v38 main_v63 ((extractStridedSlice S4x20000x1 ![0, 0, 1] · slices_S4x20000x4_S4x20000x1_0_0_1) : (⟨S4x20000x4, .f32⟩ : BufTy).Contents (Elt F) → (⟨S4x20000x1, .f32⟩ : BufTy).Contents (Elt F)),
    StableHlo.reshape main_v63 main_v64 (rfl : (.f32 : EltTy) = .f32) shapeCasts_S4x20000x1_S4x20000,
    StableHlo.binary main_v62 main_v64 main_v65 (subf : (⟨S4x20000, .f32⟩ : BufTy).Contents (Elt F) → (⟨S4x20000, .f32⟩ : BufTy).Contents (Elt F) → (⟨S4x20000, .f32⟩ : BufTy).Contents (Elt F)),
    StableHlo.binary main_v60 main_v65 main_v66 (mulf : (⟨S4x20000, .f32⟩ : BufTy).Contents (Elt F) → (⟨S4x20000, .f32⟩ : BufTy).Contents (Elt F) → (⟨S4x20000, .f32⟩ : BufTy).Contents (Elt F)),
    StableHlo.unary main_v55 main_v67 ((extractStridedSlice S4x100x1 ![0, 0, 2] · slices_S4x100x4_S4x100x1_0_0_2) : (⟨S4x100x4, .f32⟩ : BufTy).Contents (Elt F) → (⟨S4x100x1, .f32⟩ : BufTy).Contents (Elt F)),
    StableHlo.reshape main_v67 main_v68 (rfl : (.f32 : EltTy) = .f32) shapeCasts_S4x100x1_S4x100,
    StableHlo.unary main_v55 main_v69 ((extractStridedSlice S4x100x1 ![0, 0, 0] · slices_S4x100x4_S4x100x1_0_0_0) : (⟨S4x100x4, .f32⟩ : BufTy).Contents (Elt F) → (⟨S4x100x1, .f32⟩ : BufTy).Contents (Elt F)),
    StableHlo.reshape main_v69 main_v70 (rfl : (.f32 : EltTy) = .f32) shapeCasts_S4x100x1_S4x100,
    StableHlo.binary main_v68 main_v70 main_v71 (subf : (⟨S4x100, .f32⟩ : BufTy).Contents (Elt F) → (⟨S4x100, .f32⟩ : BufTy).Contents (Elt F) → (⟨S4x100, .f32⟩ : BufTy).Contents (Elt F)),
    StableHlo.unary main_v55 main_v72 ((extractStridedSlice S4x100x1 ![0, 0, 3] · slices_S4x100x4_S4x100x1_0_0_3) : (⟨S4x100x4, .f32⟩ : BufTy).Contents (Elt F) → (⟨S4x100x1, .f32⟩ : BufTy).Contents (Elt F)),
    StableHlo.reshape main_v72 main_v73 (rfl : (.f32 : EltTy) = .f32) shapeCasts_S4x100x1_S4x100,
    StableHlo.unary main_v55 main_v74 ((extractStridedSlice S4x100x1 ![0, 0, 1] · slices_S4x100x4_S4x100x1_0_0_1) : (⟨S4x100x4, .f32⟩ : BufTy).Contents (Elt F) → (⟨S4x100x1, .f32⟩ : BufTy).Contents (Elt F)),
    StableHlo.reshape main_v74 main_v75 (rfl : (.f32 : EltTy) = .f32) shapeCasts_S4x100x1_S4x100,
    StableHlo.binary main_v73 main_v75 main_v76 (subf : (⟨S4x100, .f32⟩ : BufTy).Contents (Elt F) → (⟨S4x100, .f32⟩ : BufTy).Contents (Elt F) → (⟨S4x100, .f32⟩ : BufTy).Contents (Elt F)),
    StableHlo.binary main_v71 main_v76 main_v77 (mulf : (⟨S4x100, .f32⟩ : BufTy).Contents (Elt F) → (⟨S4x100, .f32⟩ : BufTy).Contents (Elt F) → (⟨S4x100, .f32⟩ : BufTy).Contents (Elt F)) ]

/-- Operations of the reference, part G: up to `main_v107`. -/
abbrev segG : List (HloOp τ sig (Elt F)) :=
  [ StableHlo.unary main_v38 main_v78 ((extractStridedSlice S4x20000x2 ![0, 0, 0] · slices_S4x20000x4_S4x20000x2_0_0_0) : (⟨S4x20000x4, .f32⟩ : BufTy).Contents (Elt F) → (⟨S4x20000x2, .f32⟩ : BufTy).Contents (Elt F)),
    StableHlo.unary main_v78 main_v79 (broadcastInDim S4x20000x1x2 ![0, 1, 3] bcast_S4x20000x2_S4x20000x1x2_0_1_3 : (⟨S4x20000x2, .f32⟩ : BufTy).Contents (Elt F) → (⟨S4x20000x1x2, .f32⟩ : BufTy).Contents (Elt F)),
    StableHlo.unary main_v55 main_v80 ((extractStridedSlice S4x100x2 ![0, 0, 0] · slices_S4x100x4_S4x100x2_0_0_0) : (⟨S4x100x4, .f32⟩ : BufTy).Contents (Elt F) → (⟨S4x100x2, .f32⟩ : BufTy).Contents (Elt F)),
    StableHlo.unary main_v80 main_v81 (broadcastInDim S4x1x100x2 ![0, 2, 3] bcast_S4x100x2_S4x1x100x2_0_2_3 : (⟨S4x100x2, .f32⟩ : BufTy).Contents (Elt F) → (⟨S4x1x100x2, .f32⟩ : BufTy).Contents (Elt F)),
    StableHlo.unary main_v79 main_v82 (broadcastInDim S4x20000x100x2 ![0, 1, 2, 3] bcast_S4x20000x1x2_S4x20000x100x2_0_1_2_3 : (⟨S4x20000x1x2, .f32⟩ : BufTy).Contents (Elt F) → (⟨S4x20000x100x2, .f32⟩ : BufTy).Contents (Elt F)),
    StableHlo.unary main_v81 main_v83 (broadcastInDim S4x20000x100x2 ![0, 1, 2, 3] bcast_S4x1x100x2_S4x20000x100x2_0_1_2_3 : (⟨S4x1x100x2, .f32⟩ : BufTy).Contents (Elt F) → (⟨S4x20000x100x2, .f32⟩ : BufTy).Contents (Elt F)),
    StableHlo.binary main_v82 main_v83 main_v84 (maximumf : (⟨S4x20000x100x2, .f32⟩ : BufTy).Contents (Elt F) → (⟨S4x20000x100x2, .f32⟩ : BufTy).Contents (Elt F) → (⟨S4x20000x100x2, .f32⟩ : BufTy).Contents (Elt F)),
    StableHlo.unary main_v38 main_v85 ((extractStridedSlice S4x20000x2 ![0, 0, 2] · slices_S4x20000x4_S4x20000x2_0_0_2) : (⟨S4x20000x4, .f32⟩ : BufTy).Contents (Elt F) → (⟨S4x20000x2, .f32⟩ : BufTy).Contents (Elt F)),
    StableHlo.unary main_v85 main_v86 (broadcastInDim S4x20000x1x2 ![0, 1, 3] bcast_S4x20000x2_S4x20000x1x2_0_1_3 : (⟨S4x20000x2, .f32⟩ : BufTy).Contents (Elt F) → (⟨S4x20000x1x2, .f32⟩ : BufTy).Contents (Elt F)),
    StableHlo.unary main_v55 main_v87 ((extractStridedSlice S4x100x2 ![0, 0, 2] · slices_S4x100x4_S4x100x2_0_0_2) : (⟨S4x100x4, .f32⟩ : BufTy).Contents (Elt F) → (⟨S4x100x2, .f32⟩ : BufTy).Contents (Elt F)),
    StableHlo.unary main_v87 main_v88 (broadcastInDim S4x1x100x2 ![0, 2, 3] bcast_S4x100x2_S4x1x100x2_0_2_3 : (⟨S4x100x2, .f32⟩ : BufTy).Contents (Elt F) → (⟨S4x1x100x2, .f32⟩ : BufTy).Contents (Elt F)),
    StableHlo.unary main_v86 main_v89 (broadcastInDim S4x20000x100x2 ![0, 1, 2, 3] bcast_S4x20000x1x2_S4x20000x100x2_0_1_2_3 : (⟨S4x20000x1x2, .f32⟩ : BufTy).Contents (Elt F) → (⟨S4x20000x100x2, .f32⟩ : BufTy).Contents (Elt F)),
    StableHlo.unary main_v88 main_v90 (broadcastInDim S4x20000x100x2 ![0, 1, 2, 3] bcast_S4x1x100x2_S4x20000x100x2_0_1_2_3 : (⟨S4x1x100x2, .f32⟩ : BufTy).Contents (Elt F) → (⟨S4x20000x100x2, .f32⟩ : BufTy).Contents (Elt F)),
    StableHlo.binary main_v89 main_v90 main_v91 (minimumf : (⟨S4x20000x100x2, .f32⟩ : BufTy).Contents (Elt F) → (⟨S4x20000x100x2, .f32⟩ : BufTy).Contents (Elt F) → (⟨S4x20000x100x2, .f32⟩ : BufTy).Contents (Elt F)),
    StableHlo.binary main_v91 main_v84 main_v92 (subf : (⟨S4x20000x100x2, .f32⟩ : BufTy).Contents (Elt F) → (⟨S4x20000x100x2, .f32⟩ : BufTy).Contents (Elt F) → (⟨S4x20000x100x2, .f32⟩ : BufTy).Contents (Elt F)),
    StableHlo.nullary main_cst_11 (constant S_ .f32 0x00000000#32),
    StableHlo.TRef.unary (.of main_cst_11 : StableHlo.TRef sig ⟨S_, .f32⟩) main_call1.v0 id,
    StableHlo.TRef.unary main_call1.v0 main_call1.v1 (broadcastInDim S4x20000x100x2 ![] bcast_S_S4x20000x100x2),
    StableHlo.TRef.binary main_call1.v1 (.of main_v92 : StableHlo.TRef sig ⟨S4x20000x100x2, .f32⟩) main_call1.v2 maximumf,
    StableHlo.unary main_v93 main_v94 ((extractStridedSlice S4x20000x100x1 ![0, 0, 0, 0] · slices_S4x20000x100x2_S4x20000x100x1_0_0_0_0) : (⟨S4x20000x100x2, .f32⟩ : BufTy).Contents (Elt F) → (⟨S4x20000x100x1, .f32⟩ : BufTy).Contents (Elt F)),
    StableHlo.reshape main_v94 main_v95 (rfl : (.f32 : EltTy) = .f32) shapeCasts_S4x20000x100x1_S4x20000x100,
    StableHlo.unary main_v93 main_v96 ((extractStridedSlice S4x20000x100x1 ![0, 0, 0, 1] · slices_S4x20000x100x2_S4x20000x100x1_0_0_0_1) : (⟨S4x20000x100x2, .f32⟩ : BufTy).Contents (Elt F) → (⟨S4x20000x100x1, .f32⟩ : BufTy).Contents (Elt F)),
    StableHlo.reshape main_v96 main_v97 (rfl : (.f32 : EltTy) = .f32) shapeCasts_S4x20000x100x1_S4x20000x100,
    StableHlo.binary main_v95 main_v97 main_v98 (mulf : (⟨S4x20000x100, .f32⟩ : BufTy).Contents (Elt F) → (⟨S4x20000x100, .f32⟩ : BufTy).Contents (Elt F) → (⟨S4x20000x100, .f32⟩ : BufTy).Contents (Elt F)),
    StableHlo.unary main_v66 main_v99 (broadcastInDim S4x20000x1 ![0, 1] bcast_S4x20000_S4x20000x1_0_1 : (⟨S4x20000, .f32⟩ : BufTy).Contents (Elt F) → (⟨S4x20000x1, .f32⟩ : BufTy).Contents (Elt F)),
    StableHlo.unary main_v77 main_v100 (broadcastInDim S4x1x100 ![0, 2] bcast_S4x100_S4x1x100_0_2 : (⟨S4x100, .f32⟩ : BufTy).Contents (Elt F) → (⟨S4x1x100, .f32⟩ : BufTy).Contents (Elt F)),
    StableHlo.unary main_v99 main_v101 (broadcastInDim S4x20000x100 ![0, 1, 2] bcast_S4x20000x1_S4x20000x100_0_1_2 : (⟨S4x20000x1, .f32⟩ : BufTy).Contents (Elt F) → (⟨S4x20000x100, .f32⟩ : BufTy).Contents (Elt F)),
    StableHlo.unary main_v100 main_v102 (broadcastInDim S4x20000x100 ![0, 1, 2] bcast_S4x1x100_S4x20000x100_0_1_2 : (⟨S4x1x100, .f32⟩ : BufTy).Contents (Elt F) → (⟨S4x20000x100, .f32⟩ : BufTy).Contents (Elt F)),
    StableHlo.binary main_v101 main_v102 main_v103 (addf : (⟨S4x20000x100, .f32⟩ : BufTy).Contents (Elt F) → (⟨S4x20000x100, .f32⟩ : BufTy).Contents (Elt F) → (⟨S4x20000x100, .f32⟩ : BufTy).Contents (Elt F)),
    StableHlo.binary main_v103 main_v98 main_v104 (subf : (⟨S4x20000x100, .f32⟩ : BufTy).Contents (Elt F) → (⟨S4x20000x100, .f32⟩ : BufTy).Contents (Elt F) → (⟨S4x20000x100, .f32⟩ : BufTy).Contents (Elt F)),
    StableHlo.nullary main_cst_12 (constant S_ .f32 0x322BCC77#32),
    StableHlo.unary main_cst_12 main_v105 (broadcastInDim S4x20000x100 ![] bcast_S_S4x20000x100 : (⟨S_, .f32⟩ : BufTy).Contents (Elt F) → (⟨S4x20000x100, .f32⟩ : BufTy).Contents (Elt F)),
    StableHlo.binary main_v104 main_v105 main_v106 (addf : (⟨S4x20000x100, .f32⟩ : BufTy).Contents (Elt F) → (⟨S4x20000x100, .f32⟩ : BufTy).Contents (Elt F) → (⟨S4x20000x100, .f32⟩ : BufTy).Contents (Elt F)),
    StableHlo.binary main_v98 main_v106 main_v107 (Host.divf : (⟨S4x20000x100, .f32⟩ : BufTy).Contents (Elt F) → (⟨S4x20000x100, .f32⟩ : BufTy).Contents (Elt F) → (⟨S4x20000x100, .f32⟩ : BufTy).Contents (Elt F)) ]

/-- Operations of the reference, part H: up to `main_v133`. -/
abbrev segH : List (HloOp τ sig (Elt F)) :=
  [ StableHlo.unary main_v38 main_v108 ((extractStridedSlice S4x20000x2 ![0, 0, 0] · slices_S4x20000x4_S4x20000x2_0_0_0) : (⟨S4x20000x4, .f32⟩ : BufTy).Contents (Elt F) → (⟨S4x20000x2, .f32⟩ : BufTy).Contents (Elt F)),
    StableHlo.unary main_v108 main_v109 (broadcastInDim S4x20000x1x2 ![0, 1, 3] bcast_S4x20000x2_S4x20000x1x2_0_1_3 : (⟨S4x20000x2, .f32⟩ : BufTy).Contents (Elt F) → (⟨S4x20000x1x2, .f32⟩ : BufTy).Contents (Elt F)),
    StableHlo.unary main_v55 main_v110 ((extractStridedSlice S4x100x2 ![0, 0, 0] · slices_S4x100x4_S4x100x2_0_0_0) : (⟨S4x100x4, .f32⟩ : BufTy).Contents (Elt F) → (⟨S4x100x2, .f32⟩ : BufTy).Contents (Elt F)),
    StableHlo.unary main_v110 main_v111 (broadcastInDim S4x1x100x2 ![0, 2, 3] bcast_S4x100x2_S4x1x100x2_0_2_3 : (⟨S4x100x2, .f32⟩ : BufTy).Contents (Elt F) → (⟨S4x1x100x2, .f32⟩ : BufTy).Contents (Elt F)),
    StableHlo.unary main_v109 main_v112 (broadcastInDim S4x20000x100x2 ![0, 1, 2, 3] bcast_S4x20000x1x2_S4x20000x100x2_0_1_2_3 : (⟨S4x20000x1x2, .f32⟩ : BufTy).Contents (Elt F) → (⟨S4x20000x100x2, .f32⟩ : BufTy).Contents (Elt F)),
    StableHlo.unary main_v111 main_v113 (broadcastInDim S4x20000x100x2 ![0, 1, 2, 3] bcast_S4x1x100x2_S4x20000x100x2_0_1_2_3 : (⟨S4x1x100x2, .f32⟩ : BufTy).Contents (Elt F) → (⟨S4x20000x100x2, .f32⟩ : BufTy).Contents (Elt F)),
    StableHlo.binary main_v112 main_v113 main_v114 (minimumf : (⟨S4x20000x100x2, .f32⟩ : BufTy).Contents (Elt F) → (⟨S4x20000x100x2, .f32⟩ : BufTy).Contents (Elt F) → (⟨S4x20000x100x2, .f32⟩ : BufTy).Contents (Elt F)),
    StableHlo.unary main_v38 main_v115 ((extractStridedSlice S4x20000x2 ![0, 0, 2] · slices_S4x20000x4_S4x20000x2_0_0_2) : (⟨S4x20000x4, .f32⟩ : BufTy).Contents (Elt F) → (⟨S4x20000x2, .f32⟩ : BufTy).Contents (Elt F)),
    StableHlo.unary main_v115 main_v116 (broadcastInDim S4x20000x1x2 ![0, 1, 3] bcast_S4x20000x2_S4x20000x1x2_0_1_3 : (⟨S4x20000x2, .f32⟩ : BufTy).Contents (Elt F) → (⟨S4x20000x1x2, .f32⟩ : BufTy).Contents (Elt F)),
    StableHlo.unary main_v55 main_v117 ((extractStridedSlice S4x100x2 ![0, 0, 2] · slices_S4x100x4_S4x100x2_0_0_2) : (⟨S4x100x4, .f32⟩ : BufTy).Contents (Elt F) → (⟨S4x100x2, .f32⟩ : BufTy).Contents (Elt F)),
    StableHlo.unary main_v117 main_v118 (broadcastInDim S4x1x100x2 ![0, 2, 3] bcast_S4x100x2_S4x1x100x2_0_2_3 : (⟨S4x100x2, .f32⟩ : BufTy).Contents (Elt F) → (⟨S4x1x100x2, .f32⟩ : BufTy).Contents (Elt F)),
    StableHlo.unary main_v116 main_v119 (broadcastInDim S4x20000x100x2 ![0, 1, 2, 3] bcast_S4x20000x1x2_S4x20000x100x2_0_1_2_3 : (⟨S4x20000x1x2, .f32⟩ : BufTy).Contents (Elt F) → (⟨S4x20000x100x2, .f32⟩ : BufTy).Contents (Elt F)),
    StableHlo.unary main_v118 main_v120 (broadcastInDim S4x20000x100x2 ![0, 1, 2, 3] bcast_S4x1x100x2_S4x20000x100x2_0_1_2_3 : (⟨S4x1x100x2, .f32⟩ : BufTy).Contents (Elt F) → (⟨S4x20000x100x2, .f32⟩ : BufTy).Contents (Elt F)),
    StableHlo.binary main_v119 main_v120 main_v121 (maximumf : (⟨S4x20000x100x2, .f32⟩ : BufTy).Contents (Elt F) → (⟨S4x20000x100x2, .f32⟩ : BufTy).Contents (Elt F) → (⟨S4x20000x100x2, .f32⟩ : BufTy).Contents (Elt F)),
    StableHlo.binary main_v121 main_v114 main_v122 (subf : (⟨S4x20000x100x2, .f32⟩ : BufTy).Contents (Elt F) → (⟨S4x20000x100x2, .f32⟩ : BufTy).Contents (Elt F) → (⟨S4x20000x100x2, .f32⟩ : BufTy).Contents (Elt F)),
    StableHlo.nullary main_cst_13 (constant S_ .f32 0x00000000#32),
    StableHlo.TRef.unary (.of main_cst_13 : StableHlo.TRef sig ⟨S_, .f32⟩) main_call2.v0 id,
    StableHlo.TRef.unary main_call2.v0 main_call2.v1 (broadcastInDim S4x20000x100x2 ![] bcast_S_S4x20000x100x2),
    StableHlo.TRef.binary main_call2.v1 (.of main_v122 : StableHlo.TRef sig ⟨S4x20000x100x2, .f32⟩) main_call2.v2 maximumf,
    StableHlo.unary main_v123 main_v124 ((extractStridedSlice S4x20000x100x1 ![0, 0, 0, 0] · slices_S4x20000x100x2_S4x20000x100x1_0_0_0_0) : (⟨S4x20000x100x2, .f32⟩ : BufTy).Contents (Elt F) → (⟨S4x20000x100x1, .f32⟩ : BufTy).Contents (Elt F)),
    StableHlo.reshape main_v124 main_v125 (rfl : (.f32 : EltTy) = .f32) shapeCasts_S4x20000x100x1_S4x20000x100,
    StableHlo.unary main_v123 main_v126 ((extractStridedSlice S4x20000x100x1 ![0, 0, 0, 1] · slices_S4x20000x100x2_S4x20000x100x1_0_0_0_1) : (⟨S4x20000x100x2, .f32⟩ : BufTy).Contents (Elt F) → (⟨S4x20000x100x1, .f32⟩ : BufTy).Contents (Elt F)),
    StableHlo.reshape main_v126 main_v127 (rfl : (.f32 : EltTy) = .f32) shapeCasts_S4x20000x100x1_S4x20000x100,
    StableHlo.binary main_v125 main_v127 main_v128 (mulf : (⟨S4x20000x100, .f32⟩ : BufTy).Contents (Elt F) → (⟨S4x20000x100, .f32⟩ : BufTy).Contents (Elt F) → (⟨S4x20000x100, .f32⟩ : BufTy).Contents (Elt F)),
    StableHlo.binary main_v128 main_v104 main_v129 (subf : (⟨S4x20000x100, .f32⟩ : BufTy).Contents (Elt F) → (⟨S4x20000x100, .f32⟩ : BufTy).Contents (Elt F) → (⟨S4x20000x100, .f32⟩ : BufTy).Contents (Elt F)),
    StableHlo.nullary main_cst_14 (constant S_ .f32 0x322BCC77#32),
    StableHlo.unary main_cst_14 main_v130 (broadcastInDim S4x20000x100 ![] bcast_S_S4x20000x100 : (⟨S_, .f32⟩ : BufTy).Contents (Elt F) → (⟨S4x20000x100, .f32⟩ : BufTy).Contents (Elt F)),
    StableHlo.binary main_v128 main_v130 main_v131 (addf : (⟨S4x20000x100, .f32⟩ : BufTy).Contents (Elt F) → (⟨S4x20000x100, .f32⟩ : BufTy).Contents (Elt F) → (⟨S4x20000x100, .f32⟩ : BufTy).Contents (Elt F)),
    StableHlo.binary main_v129 main_v131 main_v132 (Host.divf : (⟨S4x20000x100, .f32⟩ : BufTy).Contents (Elt F) → (⟨S4x20000x100, .f32⟩ : BufTy).Contents (Elt F) → (⟨S4x20000x100, .f32⟩ : BufTy).Contents (Elt F)),
    StableHlo.binary main_v107 main_v132 main_v133 (subf : (⟨S4x20000x100, .f32⟩ : BufTy).Contents (Elt F) → (⟨S4x20000x100, .f32⟩ : BufTy).Contents (Elt F) → (⟨S4x20000x100, .f32⟩ : BufTy).Contents (Elt F)) ]

/-- Operations of the reference, part I: up to `main_v142`. -/
abbrev segI : List (HloOp τ sig (Elt F)) :=
  [ StableHlo.nullary main_cst_15 (constant S_ .f32 0x40A00000#32),
    StableHlo.unary main_cst_15 main_v134 (broadcastInDim S4x20000x100 ![] bcast_S_S4x20000x100 : (⟨S_, .f32⟩ : BufTy).Contents (Elt F) → (⟨S4x20000x100, .f32⟩ : BufTy).Contents (Elt F)),
    StableHlo.binary main_v134 main_v21 main_v135 (mulf : (⟨S4x20000x100, .f32⟩ : BufTy).Contents (Elt F) → (⟨S4x20000x100, .f32⟩ : BufTy).Contents (Elt F) → (⟨S4x20000x100, .f32⟩ : BufTy).Contents (Elt F)),
    StableHlo.nullary main_cst_16 (constant S_ .f32 0x3F800000#32),
    StableHlo.unary main_cst_16 main_v136 (broadcastInDim S4x20000x100 ![] bcast_S_S4x20000x100 : (⟨S_, .f32⟩ : BufTy).Contents (Elt F) → (⟨S4x20000x100, .f32⟩ : BufTy).Contents (Elt F)),
    StableHlo.binary main_v136 main_v14 main_v137 (mulf : (⟨S4x20000x100, .f32⟩ : BufTy).Contents (Elt F) → (⟨S4x20000x100, .f32⟩ : BufTy).Contents (Elt F) → (⟨S4x20000x100, .f32⟩ : BufTy).Contents (Elt F)),
    StableHlo.binary main_v135 main_v137 main_v138 (addf : (⟨S4x20000x100, .f32⟩ : BufTy).Contents (Elt F) → (⟨S4x20000x100, .f32⟩ : BufTy).Contents (Elt F) → (⟨S4x20000x100, .f32⟩ : BufTy).Contents (Elt F)),
    StableHlo.unary main_v133 main_v139 (Host.negf : (⟨S4x20000x100, .f32⟩ : BufTy).Contents (Elt F) → (⟨S4x20000x100, .f32⟩ : BufTy).Contents (Elt F)),
    StableHlo.nullary main_cst_17 (constant S_ .f32 0x40000000#32),
    StableHlo.unary main_cst_17 main_v140 (broadcastInDim S4x20000x100 ![] bcast_S_S4x20000x100 : (⟨S_, .f32⟩ : BufTy).Contents (Elt F) → (⟨S4x20000x100, .f32⟩ : BufTy).Contents (Elt F)),
    StableHlo.binary main_v140 main_v139 main_v141 (mulf : (⟨S4x20000x100, .f32⟩ : BufTy).Contents (Elt F) → (⟨S4x20000x100, .f32⟩ : BufTy).Contents (Elt F) → (⟨S4x20000x100, .f32⟩ : BufTy).Contents (Elt F)),
    StableHlo.binary main_v138 main_v141 main_v142 (addf : (⟨S4x20000x100, .f32⟩ : BufTy).Contents (Elt F) → (⟨S4x20000x100, .f32⟩ : BufTy).Contents (Elt F) → (⟨S4x20000x100, .f32⟩ : BufTy).Contents (Elt F)) ]

/-- Operations of the reference, part J: up to `main_v144`. -/
abbrev segJ : List (HloOp τ sig (Elt F)) :=
  [ StableHlo.nullary main_cst_18 (constant S_ .f32 0x7F800000#32),
    StableHlo.binary main_v142 main_cst_18 main_v143 ((fun x v => Host.reduce FloatOps.minimumf x v reducesTo_S4x20000x100_S4x100_d1 h_S_) : (⟨S4x20000x100, .f32⟩ : BufTy).Contents (Elt F) → (⟨S_, .f32⟩ : BufTy).Contents (Elt F) → (⟨S4x100, .f32⟩ : BufTy).Contents (Elt F)),
    StableHlo.TRef.nullary main_call3.v0 (iotaInDim S4x20000x100 32 1),
    StableHlo.TRef.nullary main_call3.cst (constant S_ .f32 0x7F800000#32),
    StableHlo.TRef.nullary main_call3.c (constantI S_ 32 0#32),
    StableHlo.TRef.quaternary (.of main_v142 : StableHlo.TRef sig ⟨S4x20000x100, .f32⟩) main_call3.v0 main_call3.cst main_call3.c main_call3.v1_0 (fun x y u v j => (Host.argReduce reducer_argmin_f32_i32 x y u v reducesTo_S4x20000x100_S4x100_d1 h_S_ j).1),
    StableHlo.TRef.quaternary (.of main_v142 : StableHlo.TRef sig ⟨S4x20000x100, .f32⟩) main_call3.v0 main_call3.cst main_call3.c main_call3.v1_1 (fun x y u v j => (Host.argReduce reducer_argmin_f32_i32 x y u v reducesTo_S4x20000x100_S4x100_d1 h_S_ j).2) ]

/-- The whole reference, in order. -/
abbrev ops : List (HloOp τ sig (Elt F)) :=
  segA ++ (segB ++ (segK ++ (segL ++ (segM ++ (segC ++ (segD ++ (segE ++ (segF ++ (segG ++ (segH ++ (segI ++ (segJ))))))))))))

end Cert.ReferenceIdeal.Ref

end

end
-- ==== Proof.RefReads.lean ====
module

public import proofs.«01_k».proof.Defs
public import proofs.«01_k».proof.Proof.Gen.ReferenceIdeal
public import proofs.«01_k».proof.Proof.RefDefs
public import proofs.«01_k».proof.Proof.RefOps
public import Idealize.ShloMosaic.Lib.Claim
public import Idealize.ShloMosaic.Lib.Quiescent
public import Idealize.ShloMosaic.Lib.StableHlo.RunRead
public import Idealize.ShloMosaic.Lib.Pipeline.Frame

/-! What each part of the reference leaves in the buffers that later parts read. -/

@[expose] public section

set_option maxRecDepth 16384

noncomputable section

namespace Cert.ReferenceIdeal.Ref

open Idealize.ShloMosaic Idealize.ShloMosaic.TcCoe Idealize.SL.Sem
open Cert.ReferenceIdeal Cert.ReferenceIdeal.Facts₀ Cert.ReferenceIdeal.Facts

attribute [local instance] Cert.ReferenceIdeal.Gen.facts

/-- What part A leaves in `main_v10`: the softmax of what it reads. -/
theorem segA_v10 (V : Valuation τ sig (Elt Ideal)) :
    StableHlo.after segA V (Proc.devRef .tc main_v10) = softmax (expRow (V (Proc.devRef .tc main_arg0)) (rowMax (V (Proc.devRef .tc main_arg0)))) := by
  after_reads_simp
  rfl

/-- What part B leaves in `main_call0_v4`: the labelIx of what it reads. -/
theorem segB_call0_v4 (V : Valuation τ sig (Elt Ideal)) :
    StableHlo.after segB V (Proc.devRef .tc main_call0_v4) = labelIx (V (Proc.devRef .tc main_arg3)) := by
  after_reads_simp
  rfl

/-- What part K leaves in `main_call0_v5`: the labelCol of what it reads. -/
theorem segK_call0_v5 (V : Valuation τ sig (Elt Ideal)) :
    StableHlo.after segK V (Proc.devRef .tc main_call0_v5) = labelCol (V (Proc.devRef .tc main_call0_v4)) := by
  after_reads_simp
  rfl

/-- What part L leaves in `main_call0_v12`: the labelOk of what it reads. -/
theorem segL_call0_v12 (V : Valuation τ sig (Elt Ideal)) :
    StableHlo.after segL V (Proc.devRef .tc main_call0_v12) = labelOk (V (Proc.devRef .tc main_call0_v5)) := by
  after_reads_simp
  simp only [StableHlo.TRef.ofBuf_toBuf]
  unfold labelOk
  have h : ∀ z : IVec S4x20000x100 1,
      (main_call0.v12 : StableHlo.TRef sig ⟨S4x20000x100, .i1⟩).toBuf (Val := Elt Ideal) z = z := fun _ => rfl
  refine (h _).trans ?_
  refine congrArg (fun y => Host.reduce IntOp.andi y (constantI S_ 1 1#1)
    reducesTo_S4x20000x100x1_S4x20000x100_d3 h_S_) ?_
  rfl

/-- What part M leaves in `main_v14`: the classCost of what it reads. -/
theorem segM_v14 (V : Valuation τ sig (Elt Ideal)) :
    StableHlo.after segM V (Proc.devRef .tc main_v14) = classCost (labelProb (V (Proc.devRef .tc main_call0_v12)) (V (Proc.devRef .tc main_v10)) (V (Proc.devRef .tc main_call0_v5))) := by
  after_reads_simp
  rfl

/-- What part C leaves in `main_v21`: the boxCost of what it reads. -/
theorem segC_v21 (V : Valuation τ sig (Elt Ideal)) :
    StableHlo.after segC V (Proc.devRef .tc main_v21) = boxCost (V (Proc.devRef .tc main_arg1)) (V (Proc.devRef .tc main_arg2)) := by
  after_reads_simp
  rfl

/-- What part D leaves in `main_v38`: the pCorners of what it reads. -/
theorem segD_v38 (V : Valuation τ sig (Elt Ideal)) :
    StableHlo.after segD V (Proc.devRef .tc main_v38) = pCorners (pX1 (V (Proc.devRef .tc main_arg1))) (pY1 (V (Proc.devRef .tc main_arg1))) (pX2 (V (Proc.devRef .tc main_arg1))) (pY2 (V (Proc.devRef .tc main_arg1))) := by
  after_reads_simp
  rfl

/-- What part E leaves in `main_v55`: the gCorners of what it reads. -/
theorem segE_v55 (V : Valuation τ sig (Elt Ideal)) :
    StableHlo.after segE V (Proc.devRef .tc main_v55) = gCorners (gX1 (V (Proc.devRef .tc main_arg2))) (gY1 (V (Proc.devRef .tc main_arg2))) (gX2 (V (Proc.devRef .tc main_arg2))) (gY2 (V (Proc.devRef .tc main_arg2))) := by
  after_reads_simp
  rfl

/-- What part F leaves in `main_v66`: the pArea of what it reads. -/
theorem segF_v66 (V : Valuation τ sig (Elt Ideal)) :
    StableHlo.after segF V (Proc.devRef .tc main_v66) = pArea (V (Proc.devRef .tc main_v38)) := by
  after_reads_simp
  rfl

/-- What part F leaves in `main_v77`: the gArea of what it reads. -/
theorem segF_v77 (V : Valuation τ sig (Elt Ideal)) :
    StableHlo.after segF V (Proc.devRef .tc main_v77) = gArea (V (Proc.devRef .tc main_v55)) := by
  after_reads_simp
  rfl

/-- What part G leaves in `main_v104`: the union of what it reads. -/
theorem segG_v104 (V : Valuation τ sig (Elt Ideal)) :
    StableHlo.after segG V (Proc.devRef .tc main_v104) = union (V (Proc.devRef .tc main_v66)) (V (Proc.devRef .tc main_v77)) (inter (interWH (V (Proc.devRef .tc main_v38)) (V (Proc.devRef .tc main_v55)))) := by
  after_reads_simp
  rfl

/-- What part G leaves in `main_v107`: the iou of what it reads. -/
theorem segG_v107 (V : Valuation τ sig (Elt Ideal)) :
    StableHlo.after segG V (Proc.devRef .tc main_v107) = iou (inter (interWH (V (Proc.devRef .tc main_v38)) (V (Proc.devRef .tc main_v55)))) (union (V (Proc.devRef .tc main_v66)) (V (Proc.devRef .tc main_v77)) (inter (interWH (V (Proc.devRef .tc main_v38)) (V (Proc.devRef .tc main_v55))))) := by
  after_reads_simp
  rfl

/-- What part H leaves in `main_v133`: the giou of what it reads. -/
theorem segH_v133 (V : Valuation τ sig (Elt Ideal)) :
    StableHlo.after segH V (Proc.devRef .tc main_v133) = giou (V (Proc.devRef .tc main_v107)) (hull (hullWH (V (Proc.devRef .tc main_v38)) (V (Proc.devRef .tc main_v55)))) (V (Proc.devRef .tc main_v104)) := by
  after_reads_simp
  rfl

/-- What part I leaves in `main_v142`: the cost of what it reads. -/
theorem segI_v142 (V : Valuation τ sig (Elt Ideal)) :
    StableHlo.after segI V (Proc.devRef .tc main_v142) = cost (V (Proc.devRef .tc main_v21)) (V (Proc.devRef .tc main_v14)) (V (Proc.devRef .tc main_v133)) := by
  after_reads_simp
  rfl

/-- What part J leaves in `main_v143`: the minCost of what it reads. -/
theorem segJ_v143 (V : Valuation τ sig (Elt Ideal)) :
    StableHlo.after segJ V (Proc.devRef .tc main_v143) = minCost (V (Proc.devRef .tc main_v142)) := by
  after_reads_simp
  rfl

/-- What part J leaves in `main_v144`: the minIdx of what it reads. -/
theorem segJ_v144 (V : Valuation τ sig (Elt Ideal)) :
    StableHlo.after segJ V (Proc.devRef .tc main_v144) = minIdx (V (Proc.devRef .tc main_v142)) := by
  after_reads_simp
  rfl

end Cert.ReferenceIdeal.Ref

end

end
-- ==== Proof.RefRun.lean ====
module

public import proofs.«01_k».proof.Defs
public import proofs.«01_k».proof.Proof.Gen.ReferenceIdeal
public import proofs.«01_k».proof.Proof.RefDefs
public import proofs.«01_k».proof.Proof.RefOps
public import proofs.«01_k».proof.Proof.RefReads
public import Idealize.ShloMosaic.Lib.StableHlo.RunHlo
public import Idealize.ShloMosaic.Lib.Claim
public import Idealize.ShloMosaic.Lib.Quiescent
public import Idealize.ShloMosaic.Lib.StableHlo.RunRead
public import Idealize.ShloMosaic.Lib.Pipeline.Frame

/-! The whole reference: what it leaves in its results and in its arguments. -/

@[expose] public section

set_option maxRecDepth 16384

noncomputable section

namespace Cert.ReferenceIdeal.Ref

open Idealize.ShloMosaic Idealize.ShloMosaic.TcCoe Idealize.SL.Sem
open Idealize.ShloMosaic.StableHlo (after_append)
open Cert.ReferenceIdeal Cert.ReferenceIdeal.Facts₀ Cert.ReferenceIdeal.Facts

attribute [local instance] Cert.ReferenceIdeal.Gen.facts

/-- The softmax, of the arguments. -/
def vSoftmax (X : FVec Ideal S4x20000x81 .f32) : FVec Ideal S4x20000x81 .f32 :=
  softmax (expRow X (rowMax X))

/-- The labelIx, of the arguments. -/
def vLabelIx (L : IVec S4x100 32) : IVec S4x20000x100 32 :=
  labelIx L

/-- The labelCol, of the arguments. -/
def vLabelCol (L : IVec S4x100 32) : IVec S4x20000x100x1 32 :=
  labelCol (vLabelIx L)

/-- The labelOk, of the arguments. -/
def vLabelOk (L : IVec S4x100 32) : IVec S4x20000x100 1 :=
  labelOk (vLabelCol L)

/-- The classCost, of the arguments. -/
def vClassCost (X : FVec Ideal S4x20000x81 .f32) (L : IVec S4x100 32) : FVec Ideal S4x20000x100 .f32 :=
  classCost (labelProb (vLabelOk L) (vSoftmax X) (vLabelCol L))

/-- The boxCost, of the arguments. -/
def vBoxCost (P : FVec Ideal S4x20000x4 .f32) (G : FVec Ideal S4x100x4 .f32) : FVec Ideal S4x20000x100 .f32 :=
  boxCost P G

/-- The pCorners, of the arguments. -/
def vPCorners (P : FVec Ideal S4x20000x4 .f32) : FVec Ideal S4x20000x4 .f32 :=
  pCorners (pX1 P) (pY1 P) (pX2 P) (pY2 P)

/-- The gCorners, of the arguments. -/
def vGCorners (G : FVec Ideal S4x100x4 .f32) : FVec Ideal S4x100x4 .f32 :=
  gCorners (gX1 G) (gY1 G) (gX2 G) (gY2 G)

/-- The pArea, of the arguments. -/
def vPArea (P : FVec Ideal S4x20000x4 .f32) : FVec Ideal S4x20000 .f32 :=
  pArea (vPCorners P)

/-- The gArea, of the arguments. -/
def vGArea (G : FVec Ideal S4x100x4 .f32) : FVec Ideal S4x100 .f32 :=
  gArea (vGCorners G)

/-- The union, of the arguments. -/
def vUnion (P : FVec Ideal S4x20000x4 .f32) (G : FVec Ideal S4x100x4 .f32) : FVec Ideal S4x20000x100 .f32 :=
  union (vPArea P) (vGArea G) (inter (interWH (vPCorners P) (vGCorners G)))

/-- The iou, of the arguments. -/
def vIou (P : FVec Ideal S4x20000x4 .f32) (G : FVec Ideal S4x100x4 .f32) : FVec Ideal S4x20000x100 .f32 :=
  iou (inter (interWH (vPCorners P) (vGCorners G))) (vUnion P G)

/-- The giou, of the arguments. -/
def vGiou (P : FVec Ideal S4x20000x4 .f32) (G : FVec Ideal S4x100x4 .f32) : FVec Ideal S4x20000x100 .f32 :=
  giou (vIou P G) (hull (hullWH (vPCorners P) (vGCorners G))) (vUnion P G)

/-- The cost, of the arguments. -/
def vCost (X : FVec Ideal S4x20000x81 .f32) (P : FVec Ideal S4x20000x4 .f32) (G : FVec Ideal S4x100x4 .f32) (L : IVec S4x100 32) : FVec Ideal S4x20000x100 .f32 :=
  cost (vBoxCost P G) (vClassCost X L) (vGiou P G)

/-- The minCost, of the arguments. -/
def vMinCost (X : FVec Ideal S4x20000x81 .f32) (P : FVec Ideal S4x20000x4 .f32) (G : FVec Ideal S4x100x4 .f32) (L : IVec S4x100 32) : FVec Ideal S4x100 .f32 :=
  minCost (vCost X P G L)

/-- The minIdx, of the arguments. -/
def vMinIdx (X : FVec Ideal S4x20000x81 .f32) (P : FVec Ideal S4x20000x4 .f32) (G : FVec Ideal S4x100x4 .f32) (L : IVec S4x100 32) : IVec S4x100 32 :=
  minIdx (vCost X P G L)

/-- What part A writes. -/
abbrev wrA : List (Ref sig .tc) :=
  [main_cst, main_v0, main_cst_0, main_v1, main_v2, main_v3, main_v4, main_v5, main_v6, main_cst_1, main_v7, main_v8, main_v9, main_v10]

/-- Part A leaves every buffer that it does not write. -/
theorem segA_keeps (V : Valuation τ sig (Elt Ideal)) {r : Ref sig .tc} (hr : r ∉ wrA) :
    StableHlo.after segA V (Proc.devRef .tc r) = V (Proc.devRef .tc r) :=
  StableHlo.after_unwritten wrA rfl hr V

/-- What part B writes. -/
abbrev wrB : List (Ref sig .tc) :=
  [main_v11, main_v12, main_call0_c, main_call0_v0, main_call0_v1, main_call0_c_0, main_call0_v2, main_call0_v3, main_call0_v4]

/-- Part B leaves every buffer that it does not write. -/
theorem segB_keeps (V : Valuation τ sig (Elt Ideal)) {r : Ref sig .tc} (hr : r ∉ wrB) :
    StableHlo.after segB V (Proc.devRef .tc r) = V (Proc.devRef .tc r) :=
  StableHlo.after_unwritten wrB rfl hr V

/-- What part K writes. -/
abbrev wrK : List (Ref sig .tc) :=
  [main_call0_v5]

/-- Part K leaves every buffer that it does not write. -/
theorem segK_keeps (V : Valuation τ sig (Elt Ideal)) {r : Ref sig .tc} (hr : r ∉ wrK) :
    StableHlo.after segK V (Proc.devRef .tc r) = V (Proc.devRef .tc r) :=
  StableHlo.after_unwritten wrK rfl hr V

/-- What part L writes. -/
abbrev wrL : List (Ref sig .tc) :=
  [main_call0_c_1, main_call0_c_2, main_call0_v6, main_call0_v7, main_call0_v8, main_call0_v9, main_call0_v10, main_call0_v11, main_call0_c_3, main_call0_v12]

/-- Part L leaves every buffer that it does not write. -/
theorem segL_keeps (V : Valuation τ sig (Elt Ideal)) {r : Ref sig .tc} (hr : r ∉ wrL) :
    StableHlo.after segL V (Proc.devRef .tc r) = V (Proc.devRef .tc r) :=
  StableHlo.after_unwritten wrL rfl hr V

/-- What part M writes. -/
abbrev wrM : List (Ref sig .tc) :=
  [main_call0_v13, main_call0_cst, main_call0_v14, main_v13, main_v14]

/-- Part M leaves every buffer that it does not write. -/
theorem segM_keeps (V : Valuation τ sig (Elt Ideal)) {r : Ref sig .tc} (hr : r ∉ wrM) :
    StableHlo.after segM V (Proc.devRef .tc r) = V (Proc.devRef .tc r) :=
  StableHlo.after_unwritten wrM rfl hr V

/-- What part C writes. -/
abbrev wrC : List (Ref sig .tc) :=
  [main_v15, main_v16, main_v17, main_v18, main_v19, main_v20, main_cst_2, main_v21]

/-- Part C leaves every buffer that it does not write. -/
theorem segC_keeps (V : Valuation τ sig (Elt Ideal)) {r : Ref sig .tc} (hr : r ∉ wrC) :
    StableHlo.after segC V (Proc.devRef .tc r) = V (Proc.devRef .tc r) :=
  StableHlo.after_unwritten wrC rfl hr V

/-- What part D writes. -/
abbrev wrD : List (Ref sig .tc) :=
  [main_v22, main_v23, main_v24, main_v25, main_cst_3, main_v26, main_v27, main_v28, main_cst_4, main_v29, main_v30, main_v31, main_cst_5, main_v32, main_v33, main_v34, main_cst_6, main_v35, main_v36, main_v37, main_v38]

/-- Part D leaves every buffer that it does not write. -/
theorem segD_keeps (V : Valuation τ sig (Elt Ideal)) {r : Ref sig .tc} (hr : r ∉ wrD) :
    StableHlo.after segD V (Proc.devRef .tc r) = V (Proc.devRef .tc r) :=
  StableHlo.after_unwritten wrD rfl hr V

/-- What part E writes. -/
abbrev wrE : List (Ref sig .tc) :=
  [main_v39, main_v40, main_v41, main_v42, main_cst_7, main_v43, main_v44, main_v45, main_cst_8, main_v46, main_v47, main_v48, main_cst_9, main_v49, main_v50, main_v51, main_cst_10, main_v52, main_v53, main_v54, main_v55]

/-- Part E leaves every buffer that it does not write. -/
theorem segE_keeps (V : Valuation τ sig (Elt Ideal)) {r : Ref sig .tc} (hr : r ∉ wrE) :
    StableHlo.after segE V (Proc.devRef .tc r) = V (Proc.devRef .tc r) :=
  StableHlo.after_unwritten wrE rfl hr V

/-- What part F writes. -/
abbrev wrF : List (Ref sig .tc) :=
  [main_v56, main_v57, main_v58, main_v59, main_v60, main_v61, main_v62, main_v63, main_v64, main_v65, main_v66, main_v67, main_v68, main_v69, main_v70, main_v71, main_v72, main_v73, main_v74, main_v75, main_v76, main_v77]

/-- Part F leaves every buffer that it does not write. -/
theorem segF_keeps (V : Valuation τ sig (Elt Ideal)) {r : Ref sig .tc} (hr : r ∉ wrF) :
    StableHlo.after segF V (Proc.devRef .tc r) = V (Proc.devRef .tc r) :=
  StableHlo.after_unwritten wrF rfl hr V

/-- What part G writes. -/
abbrev wrG : List (Ref sig .tc) :=
  [main_v78, main_v79, main_v80, main_v81, main_v82, main_v83, main_v84, main_v85, main_v86, main_v87, main_v88, main_v89, main_v90, main_v91, main_v92, main_cst_11, main_call1_v0, main_call1_v1, main_v93, main_v94, main_v95, main_v96, main_v97, main_v98, main_v99, main_v100, main_v101, main_v102, main_v103, main_v104, main_cst_12, main_v105, main_v106, main_v107]

/-- Part G leaves every buffer that it does not write. -/
theorem segG_keeps (V : Valuation τ sig (Elt Ideal)) {r : Ref sig .tc} (hr : r ∉ wrG) :
    StableHlo.after segG V (Proc.devRef .tc r) = V (Proc.devRef .tc r) :=
  StableHlo.after_unwritten wrG rfl hr V

/-- What part H writes. -/
abbrev wrH : List (Ref sig .tc) :=
  [main_v108, main_v109, main_v110, main_v111, main_v112, main_v113, main_v114, main_v115, main_v116, main_v117, main_v118, main_v119, main_v120, main_v121, main_v122, main_cst_13, main_call2_v0, main_call2_v1, main_v123, main_v124, main_v125, main_v126, main_v127, main_v128, main_v129, main_cst_14, main_v130, main_v131, main_v132, main_v133]

/-- Part H leaves every buffer that it does not write. -/
theorem segH_keeps (V : Valuation τ sig (Elt Ideal)) {r : Ref sig .tc} (hr : r ∉ wrH) :
    StableHlo.after segH V (Proc.devRef .tc r) = V (Proc.devRef .tc r) :=
  StableHlo.after_unwritten wrH rfl hr V

/-- What part I writes. -/
abbrev wrI : List (Ref sig .tc) :=
  [main_cst_15, main_v134, main_v135, main_cst_16, main_v136, main_v137, main_v138, main_v139, main_cst_17, main_v140, main_v141, main_v142]

/-- Part I leaves every buffer that it does not write. -/
theorem segI_keeps (V : Valuation τ sig (Elt Ideal)) {r : Ref sig .tc} (hr : r ∉ wrI) :
    StableHlo.after segI V (Proc.devRef .tc r) = V (Proc.devRef .tc r) :=
  StableHlo.after_unwritten wrI rfl hr V

/-- What part J writes. -/
abbrev wrJ : List (Ref sig .tc) :=
  [main_cst_18, main_v143, main_call3_v0, main_call3_cst, main_call3_c, main_call3_v1_0, main_v144]

/-- Part J leaves every buffer that it does not write. -/
theorem segJ_keeps (V : Valuation τ sig (Elt Ideal)) {r : Ref sig .tc} (hr : r ∉ wrJ) :
    StableHlo.after segJ V (Proc.devRef .tc r) = V (Proc.devRef .tc r) :=
  StableHlo.after_unwritten wrJ rfl hr V

/-- After the whole reference: the least cost and its query, of the arguments; and the arguments, unchanged. -/
theorem after_ops (V : Valuation τ sig (Elt Ideal)) :
    StableHlo.after ops V (Proc.devRef .tc main_v143) = vMinCost (V (Proc.devRef .tc main_arg0)) (V (Proc.devRef .tc main_arg1)) (V (Proc.devRef .tc main_arg2)) (V (Proc.devRef .tc main_arg3))
    ∧ StableHlo.after ops V (Proc.devRef .tc main_v144) = vMinIdx (V (Proc.devRef .tc main_arg0)) (V (Proc.devRef .tc main_arg1)) (V (Proc.devRef .tc main_arg2)) (V (Proc.devRef .tc main_arg3))
    ∧ StableHlo.after ops V (Proc.devRef .tc main_arg0) = V (Proc.devRef .tc main_arg0)
    ∧ StableHlo.after ops V (Proc.devRef .tc main_arg1) = V (Proc.devRef .tc main_arg1)
    ∧ StableHlo.after ops V (Proc.devRef .tc main_arg2) = V (Proc.devRef .tc main_arg2)
    ∧ StableHlo.after ops V (Proc.devRef .tc main_arg3) = V (Proc.devRef .tc main_arg3) := by
  obtain ⟨W1, e1⟩ : ∃ W, W = StableHlo.after segA V := ⟨_, rfl⟩
  have hA_arg0 : W1 (Proc.devRef .tc main_arg0) = V (Proc.devRef .tc main_arg0) := by
    rw [e1]; exact segA_keeps V (by decide)
  have hA_arg1 : W1 (Proc.devRef .tc main_arg1) = V (Proc.devRef .tc main_arg1) := by
    rw [e1]; exact segA_keeps V (by decide)
  have hA_arg2 : W1 (Proc.devRef .tc main_arg2) = V (Proc.devRef .tc main_arg2) := by
    rw [e1]; exact segA_keeps V (by decide)
  have hA_arg3 : W1 (Proc.devRef .tc main_arg3) = V (Proc.devRef .tc main_arg3) := by
    rw [e1]; exact segA_keeps V (by decide)
  have hA_v10 : W1 (Proc.devRef .tc main_v10) = vSoftmax (V (Proc.devRef .tc main_arg0)) := by
    rw [e1, segA_v10]
    rfl
  obtain ⟨W2, e2⟩ : ∃ W, W = StableHlo.after segB W1 := ⟨_, rfl⟩
  have hB_arg0 : W2 (Proc.devRef .tc main_arg0) = V (Proc.devRef .tc main_arg0) := by
    rw [e2]; exact (segB_keeps _ (by decide)).trans hA_arg0
  have hB_arg1 : W2 (Proc.devRef .tc main_arg1) = V (Proc.devRef .tc main_arg1) := by
    rw [e2]; exact (segB_keeps _ (by decide)).trans hA_arg1
  have hB_arg2 : W2 (Proc.devRef .tc main_arg2) = V (Proc.devRef .tc main_arg2) := by
    rw [e2]; exact (segB_keeps _ (by decide)).trans hA_arg2
  have hB_arg3 : W2 (Proc.devRef .tc main_arg3) = V (Proc.devRef .tc main_arg3) := by
    rw [e2]; exact (segB_keeps _ (by decide)).trans hA_arg3
  have hB_v10 : W2 (Proc.devRef .tc main_v10) = vSoftmax (V (Proc.devRef .tc main_arg0)) := by
    rw [e2]; exact (segB_keeps _ (by decide)).trans hA_v10
  have hB_call0_v4 : W2 (Proc.devRef .tc main_call0_v4) = vLabelIx (V (Proc.devRef .tc main_arg3)) := by
    rw [e2, segB_call0_v4, hA_arg3]
    rfl
  obtain ⟨W3, e3⟩ : ∃ W, W = StableHlo.after segK W2 := ⟨_, rfl⟩
  have hK_arg0 : W3 (Proc.devRef .tc main_arg0) = V (Proc.devRef .tc main_arg0) := by
    rw [e3]; exact (segK_keeps _ (by decide)).trans hB_arg0
  have hK_arg1 : W3 (Proc.devRef .tc main_arg1) = V (Proc.devRef .tc main_arg1) := by
    rw [e3]; exact (segK_keeps _ (by decide)).trans hB_arg1
  have hK_arg2 : W3 (Proc.devRef .tc main_arg2) = V (Proc.devRef .tc main_arg2) := by
    rw [e3]; exact (segK_keeps _ (by decide)).trans hB_arg2
  have hK_arg3 : W3 (Proc.devRef .tc main_arg3) = V (Proc.devRef .tc main_arg3) := by
    rw [e3]; exact (segK_keeps _ (by decide)).trans hB_arg3
  have hK_v10 : W3 (Proc.devRef .tc main_v10) = vSoftmax (V (Proc.devRef .tc main_arg0)) := by
    rw [e3]; exact (segK_keeps _ (by decide)).trans hB_v10
  have hK_call0_v5 : W3 (Proc.devRef .tc main_call0_v5) = vLabelCol (V (Proc.devRef .tc main_arg3)) := by
    rw [e3, segK_call0_v5, hB_call0_v4]
    rfl
  obtain ⟨W4, e4⟩ : ∃ W, W = StableHlo.after segL W3 := ⟨_, rfl⟩
  have hL_arg0 : W4 (Proc.devRef .tc main_arg0) = V (Proc.devRef .tc main_arg0) := by
    rw [e4]; exact (segL_keeps _ (by decide)).trans hK_arg0
  have hL_arg1 : W4 (Proc.devRef .tc main_arg1) = V (Proc.devRef .tc main_arg1) := by
    rw [e4]; exact (segL_keeps _ (by decide)).trans hK_arg1
  have hL_arg2 : W4 (Proc.devRef .tc main_arg2) = V (Proc.devRef .tc main_arg2) := by
    rw [e4]; exact (segL_keeps _ (by decide)).trans hK_arg2
  have hL_arg3 : W4 (Proc.devRef .tc main_arg3) = V (Proc.devRef .tc main_arg3) := by
    rw [e4]; exact (segL_keeps _ (by decide)).trans hK_arg3
  have hL_v10 : W4 (Proc.devRef .tc main_v10) = vSoftmax (V (Proc.devRef .tc main_arg0)) := by
    rw [e4]; exact (segL_keeps _ (by decide)).trans hK_v10
  have hL_call0_v5 : W4 (Proc.devRef .tc main_call0_v5) = vLabelCol (V (Proc.devRef .tc main_arg3)) := by
    rw [e4]; exact (segL_keeps _ (by decide)).trans hK_call0_v5
  have hL_call0_v12 : W4 (Proc.devRef .tc main_call0_v12) = vLabelOk (V (Proc.devRef .tc main_arg3)) := by
    rw [e4, segL_call0_v12, hK_call0_v5]
    rfl
  obtain ⟨W5, e5⟩ : ∃ W, W = StableHlo.after segM W4 := ⟨_, rfl⟩
  have hM_arg0 : W5 (Proc.devRef .tc main_arg0) = V (Proc.devRef .tc main_arg0) := by
    rw [e5]; exact (segM_keeps _ (by decide)).trans hL_arg0
  have hM_arg1 : W5 (Proc.devRef .tc main_arg1) = V (Proc.devRef .tc main_arg1) := by
    rw [e5]; exact (segM_keeps _ (by decide)).trans hL_arg1
  have hM_arg2 : W5 (Proc.devRef .tc main_arg2) = V (Proc.devRef .tc main_arg2) := by
    rw [e5]; exact (segM_keeps _ (by decide)).trans hL_arg2
  have hM_arg3 : W5 (Proc.devRef .tc main_arg3) = V (Proc.devRef .tc main_arg3) := by
    rw [e5]; exact (segM_keeps _ (by decide)).trans hL_arg3
  have hM_v14 : W5 (Proc.devRef .tc main_v14) = vClassCost (V (Proc.devRef .tc main_arg0)) (V (Proc.devRef .tc main_arg3)) := by
    rw [e5, segM_v14, hL_call0_v12, hL_v10, hL_call0_v5]
    rfl
  obtain ⟨W6, e6⟩ : ∃ W, W = StableHlo.after segC W5 := ⟨_, rfl⟩
  have hC_arg0 : W6 (Proc.devRef .tc main_arg0) = V (Proc.devRef .tc main_arg0) := by
    rw [e6]; exact (segC_keeps _ (by decide)).trans hM_arg0
  have hC_arg1 : W6 (Proc.devRef .tc main_arg1) = V (Proc.devRef .tc main_arg1) := by
    rw [e6]; exact (segC_keeps _ (by decide)).trans hM_arg1
  have hC_arg2 : W6 (Proc.devRef .tc main_arg2) = V (Proc.devRef .tc main_arg2) := by
    rw [e6]; exact (segC_keeps _ (by decide)).trans hM_arg2
  have hC_arg3 : W6 (Proc.devRef .tc main_arg3) = V (Proc.devRef .tc main_arg3) := by
    rw [e6]; exact (segC_keeps _ (by decide)).trans hM_arg3
  have hC_v14 : W6 (Proc.devRef .tc main_v14) = vClassCost (V (Proc.devRef .tc main_arg0)) (V (Proc.devRef .tc main_arg3)) := by
    rw [e6]; exact (segC_keeps _ (by decide)).trans hM_v14
  have hC_v21 : W6 (Proc.devRef .tc main_v21) = vBoxCost (V (Proc.devRef .tc main_arg1)) (V (Proc.devRef .tc main_arg2)) := by
    rw [e6, segC_v21, hM_arg1, hM_arg2]
    rfl
  obtain ⟨W7, e7⟩ : ∃ W, W = StableHlo.after segD W6 := ⟨_, rfl⟩
  have hD_arg0 : W7 (Proc.devRef .tc main_arg0) = V (Proc.devRef .tc main_arg0) := by
    rw [e7]; exact (segD_keeps _ (by decide)).trans hC_arg0
  have hD_arg1 : W7 (Proc.devRef .tc main_arg1) = V (Proc.devRef .tc main_arg1) := by
    rw [e7]; exact (segD_keeps _ (by decide)).trans hC_arg1
  have hD_arg2 : W7 (Proc.devRef .tc main_arg2) = V (Proc.devRef .tc main_arg2) := by
    rw [e7]; exact (segD_keeps _ (by decide)).trans hC_arg2
  have hD_arg3 : W7 (Proc.devRef .tc main_arg3) = V (Proc.devRef .tc main_arg3) := by
    rw [e7]; exact (segD_keeps _ (by decide)).trans hC_arg3
  have hD_v14 : W7 (Proc.devRef .tc main_v14) = vClassCost (V (Proc.devRef .tc main_arg0)) (V (Proc.devRef .tc main_arg3)) := by
    rw [e7]; exact (segD_keeps _ (by decide)).trans hC_v14
  have hD_v21 : W7 (Proc.devRef .tc main_v21) = vBoxCost (V (Proc.devRef .tc main_arg1)) (V (Proc.devRef .tc main_arg2)) := by
    rw [e7]; exact (segD_keeps _ (by decide)).trans hC_v21
  have hD_v38 : W7 (Proc.devRef .tc main_v38) = vPCorners (V (Proc.devRef .tc main_arg1)) := by
    rw [e7, segD_v38, hC_arg1]
    rfl
  obtain ⟨W8, e8⟩ : ∃ W, W = StableHlo.after segE W7 := ⟨_, rfl⟩
  have hE_arg0 : W8 (Proc.devRef .tc main_arg0) = V (Proc.devRef .tc main_arg0) := by
    rw [e8]; exact (segE_keeps _ (by decide)).trans hD_arg0
  have hE_arg1 : W8 (Proc.devRef .tc main_arg1) = V (Proc.devRef .tc main_arg1) := by
    rw [e8]; exact (segE_keeps _ (by decide)).trans hD_arg1
  have hE_arg2 : W8 (Proc.devRef .tc main_arg2) = V (Proc.devRef .tc main_arg2) := by
    rw [e8]; exact (segE_keeps _ (by decide)).trans hD_arg2
  have hE_arg3 : W8 (Proc.devRef .tc main_arg3) = V (Proc.devRef .tc main_arg3) := by
    rw [e8]; exact (segE_keeps _ (by decide)).trans hD_arg3
  have hE_v14 : W8 (Proc.devRef .tc main_v14) = vClassCost (V (Proc.devRef .tc main_arg0)) (V (Proc.devRef .tc main_arg3)) := by
    rw [e8]; exact (segE_keeps _ (by decide)).trans hD_v14
  have hE_v21 : W8 (Proc.devRef .tc main_v21) = vBoxCost (V (Proc.devRef .tc main_arg1)) (V (Proc.devRef .tc main_arg2)) := by
    rw [e8]; exact (segE_keeps _ (by decide)).trans hD_v21
  have hE_v38 : W8 (Proc.devRef .tc main_v38) = vPCorners (V (Proc.devRef .tc main_arg1)) := by
    rw [e8]; exact (segE_keeps _ (by decide)).trans hD_v38
  have hE_v55 : W8 (Proc.devRef .tc main_v55) = vGCorners (V (Proc.devRef .tc main_arg2)) := by
    rw [e8, segE_v55, hD_arg2]
    rfl
  obtain ⟨W9, e9⟩ : ∃ W, W = StableHlo.after segF W8 := ⟨_, rfl⟩
  have hF_arg0 : W9 (Proc.devRef .tc main_arg0) = V (Proc.devRef .tc main_arg0) := by
    rw [e9]; exact (segF_keeps _ (by decide)).trans hE_arg0
  have hF_arg1 : W9 (Proc.devRef .tc main_arg1) = V (Proc.devRef .tc main_arg1) := by
    rw [e9]; exact (segF_keeps _ (by decide)).trans hE_arg1
  have hF_arg2 : W9 (Proc.devRef .tc main_arg2) = V (Proc.devRef .tc main_arg2) := by
    rw [e9]; exact (segF_keeps _ (by decide)).trans hE_arg2
  have hF_arg3 : W9 (Proc.devRef .tc main_arg3) = V (Proc.devRef .tc main_arg3) := by
    rw [e9]; exact (segF_keeps _ (by decide)).trans hE_arg3
  have hF_v14 : W9 (Proc.devRef .tc main_v14) = vClassCost (V (Proc.devRef .tc main_arg0)) (V (Proc.devRef .tc main_arg3)) := by
    rw [e9]; exact (segF_keeps _ (by decide)).trans hE_v14
  have hF_v21 : W9 (Proc.devRef .tc main_v21) = vBoxCost (V (Proc.devRef .tc main_arg1)) (V (Proc.devRef .tc main_arg2)) := by
    rw [e9]; exact (segF_keeps _ (by decide)).trans hE_v21
  have hF_v38 : W9 (Proc.devRef .tc main_v38) = vPCorners (V (Proc.devRef .tc main_arg1)) := by
    rw [e9]; exact (segF_keeps _ (by decide)).trans hE_v38
  have hF_v55 : W9 (Proc.devRef .tc main_v55) = vGCorners (V (Proc.devRef .tc main_arg2)) := by
    rw [e9]; exact (segF_keeps _ (by decide)).trans hE_v55
  have hF_v66 : W9 (Proc.devRef .tc main_v66) = vPArea (V (Proc.devRef .tc main_arg1)) := by
    rw [e9, segF_v66, hE_v38]
    rfl
  have hF_v77 : W9 (Proc.devRef .tc main_v77) = vGArea (V (Proc.devRef .tc main_arg2)) := by
    rw [e9, segF_v77, hE_v55]
    rfl
  obtain ⟨W10, e10⟩ : ∃ W, W = StableHlo.after segG W9 := ⟨_, rfl⟩
  have hG_arg0 : W10 (Proc.devRef .tc main_arg0) = V (Proc.devRef .tc main_arg0) := by
    rw [e10]; exact (segG_keeps _ (by decide)).trans hF_arg0
  have hG_arg1 : W10 (Proc.devRef .tc main_arg1) = V (Proc.devRef .tc main_arg1) := by
    rw [e10]; exact (segG_keeps _ (by decide)).trans hF_arg1
  have hG_arg2 : W10 (Proc.devRef .tc main_arg2) = V (Proc.devRef .tc main_arg2) := by
    rw [e10]; exact (segG_keeps _ (by decide)).trans hF_arg2
  have hG_arg3 : W10 (Proc.devRef .tc main_arg3) = V (Proc.devRef .tc main_arg3) := by
    rw [e10]; exact (segG_keeps _ (by decide)).trans hF_arg3
  have hG_v14 : W10 (Proc.devRef .tc main_v14) = vClassCost (V (Proc.devRef .tc main_arg0)) (V (Proc.devRef .tc main_arg3)) := by
    rw [e10]; exact (segG_keeps _ (by decide)).trans hF_v14
  have hG_v21 : W10 (Proc.devRef .tc main_v21) = vBoxCost (V (Proc.devRef .tc main_arg1)) (V (Proc.devRef .tc main_arg2)) := by
    rw [e10]; exact (segG_keeps _ (by decide)).trans hF_v21
  have hG_v38 : W10 (Proc.devRef .tc main_v38) = vPCorners (V (Proc.devRef .tc main_arg1)) := by
    rw [e10]; exact (segG_keeps _ (by decide)).trans hF_v38
  have hG_v55 : W10 (Proc.devRef .tc main_v55) = vGCorners (V (Proc.devRef .tc main_arg2)) := by
    rw [e10]; exact (segG_keeps _ (by decide)).trans hF_v55
  have hG_v104 : W10 (Proc.devRef .tc main_v104) = vUnion (V (Proc.devRef .tc main_arg1)) (V (Proc.devRef .tc main_arg2)) := by
    rw [e10, segG_v104, hF_v66, hF_v77, hF_v38, hF_v55]
    rfl
  have hG_v107 : W10 (Proc.devRef .tc main_v107) = vIou (V (Proc.devRef .tc main_arg1)) (V (Proc.devRef .tc main_arg2)) := by
    rw [e10, segG_v107, hF_v38, hF_v55, hF_v66, hF_v77]
    rfl
  obtain ⟨W11, e11⟩ : ∃ W, W = StableHlo.after segH W10 := ⟨_, rfl⟩
  have hH_arg0 : W11 (Proc.devRef .tc main_arg0) = V (Proc.devRef .tc main_arg0) := by
    rw [e11]; exact (segH_keeps _ (by decide)).trans hG_arg0
  have hH_arg1 : W11 (Proc.devRef .tc main_arg1) = V (Proc.devRef .tc main_arg1) := by
    rw [e11]; exact (segH_keeps _ (by decide)).trans hG_arg1
  have hH_arg2 : W11 (Proc.devRef .tc main_arg2) = V (Proc.devRef .tc main_arg2) := by
    rw [e11]; exact (segH_keeps _ (by decide)).trans hG_arg2
  have hH_arg3 : W11 (Proc.devRef .tc main_arg3) = V (Proc.devRef .tc main_arg3) := by
    rw [e11]; exact (segH_keeps _ (by decide)).trans hG_arg3
  have hH_v14 : W11 (Proc.devRef .tc main_v14) = vClassCost (V (Proc.devRef .tc main_arg0)) (V (Proc.devRef .tc main_arg3)) := by
    rw [e11]; exact (segH_keeps _ (by decide)).trans hG_v14
  have hH_v21 : W11 (Proc.devRef .tc main_v21) = vBoxCost (V (Proc.devRef .tc main_arg1)) (V (Proc.devRef .tc main_arg2)) := by
    rw [e11]; exact (segH_keeps _ (by decide)).trans hG_v21
  have hH_v133 : W11 (Proc.devRef .tc main_v133) = vGiou (V (Proc.devRef .tc main_arg1)) (V (Proc.devRef .tc main_arg2)) := by
    rw [e11, segH_v133, hG_v107, hG_v38, hG_v55, hG_v104]
    rfl
  obtain ⟨W12, e12⟩ : ∃ W, W = StableHlo.after segI W11 := ⟨_, rfl⟩
  have hI_arg0 : W12 (Proc.devRef .tc main_arg0) = V (Proc.devRef .tc main_arg0) := by
    rw [e12]; exact (segI_keeps _ (by decide)).trans hH_arg0
  have hI_arg1 : W12 (Proc.devRef .tc main_arg1) = V (Proc.devRef .tc main_arg1) := by
    rw [e12]; exact (segI_keeps _ (by decide)).trans hH_arg1
  have hI_arg2 : W12 (Proc.devRef .tc main_arg2) = V (Proc.devRef .tc main_arg2) := by
    rw [e12]; exact (segI_keeps _ (by decide)).trans hH_arg2
  have hI_arg3 : W12 (Proc.devRef .tc main_arg3) = V (Proc.devRef .tc main_arg3) := by
    rw [e12]; exact (segI_keeps _ (by decide)).trans hH_arg3
  have hI_v142 : W12 (Proc.devRef .tc main_v142) = vCost (V (Proc.devRef .tc main_arg0)) (V (Proc.devRef .tc main_arg1)) (V (Proc.devRef .tc main_arg2)) (V (Proc.devRef .tc main_arg3)) := by
    rw [e12, segI_v142, hH_v21, hH_v14, hH_v133]
    rfl
  obtain ⟨W13, e13⟩ : ∃ W, W = StableHlo.after segJ W12 := ⟨_, rfl⟩
  have hJ_arg0 : W13 (Proc.devRef .tc main_arg0) = V (Proc.devRef .tc main_arg0) := by
    rw [e13]; exact (segJ_keeps _ (by decide)).trans hI_arg0
  have hJ_arg1 : W13 (Proc.devRef .tc main_arg1) = V (Proc.devRef .tc main_arg1) := by
    rw [e13]; exact (segJ_keeps _ (by decide)).trans hI_arg1
  have hJ_arg2 : W13 (Proc.devRef .tc main_arg2) = V (Proc.devRef .tc main_arg2) := by
    rw [e13]; exact (segJ_keeps _ (by decide)).trans hI_arg2
  have hJ_arg3 : W13 (Proc.devRef .tc main_arg3) = V (Proc.devRef .tc main_arg3) := by
    rw [e13]; exact (segJ_keeps _ (by decide)).trans hI_arg3
  have hJ_v143 : W13 (Proc.devRef .tc main_v143) = vMinCost (V (Proc.devRef .tc main_arg0)) (V (Proc.devRef .tc main_arg1)) (V (Proc.devRef .tc main_arg2)) (V (Proc.devRef .tc main_arg3)) := by
    rw [e13, segJ_v143, hI_v142]
    rfl
  have hJ_v144 : W13 (Proc.devRef .tc main_v144) = vMinIdx (V (Proc.devRef .tc main_arg0)) (V (Proc.devRef .tc main_arg1)) (V (Proc.devRef .tc main_arg2)) (V (Proc.devRef .tc main_arg3)) := by
    rw [e13, segJ_v144, hI_v142]
    rfl
  have e : StableHlo.after ops V = W13 := by
    unfold ops
    rw [after_append, after_append, after_append, after_append, after_append, after_append, after_append, after_append, after_append, after_append, after_append, after_append, ← e1, ← e2, ← e3, ← e4, ← e5, ← e6, ← e7, ← e8, ← e9, ← e10, ← e11, ← e12, ← e13]
  rw [e]
  exact ⟨hJ_v143, hJ_v144, hJ_arg0, hJ_arg1, hJ_arg2, hJ_arg3⟩

/-- The reference's program is its list of operations. -/
theorem main_eq (d : Dev nD) : main (F := Ideal) d = StableHlo.seq ops := rfl

/-- Every buffer of an operation is an array of the device. -/
theorem ops_bufs : (ops (F := Ideal)).Forall fun op => op.bufs ⊆ StableHlo.tcRefs τ sig := by
  unfold ops
  simp only [List.forall_append]
  refine ⟨?_, ?_, ?_, ?_, ?_, ?_, ?_, ?_, ?_, ?_, ?_, ?_, ?_⟩ <;> simp

/-- Every operation determines its result. -/
theorem ops_fresh : ∀ op ∈ (ops (F := Ideal)), op.fresh = ∅ := by
  intro op h
  simp only [ops, List.mem_append] at h
  rcases h with h | h | h | h | h | h | h | h | h | h | h | h | h <;>
    (repeat (cases h with | head => rfl | tail _ h => ?_)) <;> exact nomatch h

/-- The reference runs; it leaves the least costs and their queries, and its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ d : Dev nD, ∀ V, V = StableHlo.launchContents m d →
        r.2.mem ((d.tc : Thread nD τ).loc main_v143) = vMinCost (V (Proc.devRef .tc main_arg0)) (V (Proc.devRef .tc main_arg1)) (V (Proc.devRef .tc main_arg2)) (V (Proc.devRef .tc main_arg3))
        ∧ r.2.mem ((d.tc : Thread nD τ).loc main_v144) = vMinIdx (V (Proc.devRef .tc main_arg0)) (V (Proc.devRef .tc main_arg1)) (V (Proc.devRef .tc main_arg2)) (V (Proc.devRef .tc main_arg3))
        ∧ r.2.mem ((d.tc : Thread nD τ).loc main_arg0) = V (Proc.devRef .tc main_arg0)
        ∧ r.2.mem ((d.tc : Thread nD τ).loc main_arg1) = V (Proc.devRef .tc main_arg1)
        ∧ r.2.mem ((d.tc : Thread nD τ).loc main_arg2) = V (Proc.devRef .tc main_arg2)
        ∧ r.2.mem ((d.tc : Thread nD τ).loc main_arg3) = V (Proc.devRef .tc main_arg3) := by
  refine θ_run_mono (StableHlo.run_seq (by decide) (by decide) defs main (fun _ => ops) main_eq (fun _ => ops_bufs) m ρ (fun _ => ops_fresh)) ?_
  intro r h d V hV
  subst hV
  obtain ⟨a, b, c0, c1, c2, c3⟩ := after_ops (StableHlo.launchContents m d)
  exact ⟨(h d _).trans a, (h d _).trans b, (h d _).trans c0, (h d _).trans c1, (h d _).trans c2, (h d _).trans c3⟩

/-- The reference ends with its arguments as they were and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ d : Dev nD,
        r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3))
      ∧ r.2.sem = fun _ => 0 :=
  θ_run_mono (run m ρ) fun r h =>
    ⟨fun d => (h d _ rfl).2.2, sem_eq_zero_of_no_sems rfl r.2⟩

end Cert.ReferenceIdeal.Ref

end

end
-- ==== Proof.Cost.lean ====
module

public import Idealize.ShloMosaic.Lib.Pointwise

/-! The matching cost of one prediction and one target, as a scalar: what both programs compute at each pair. -/

@[expose] public section

noncomputable section

namespace Cert.Match

open Idealize.ShloMosaic

/-- One half. -/
abbrev half : EReal := Ideal.ofBits .f32 0x3F000000#32
/-- The small constant added to each denominator. -/
abbrev eps : EReal := Ideal.ofBits .f32 0x322BCC77#32
/-- The weight of the box distance. -/
abbrev five : EReal := Ideal.ofBits .f32 0x40A00000#32
/-- The weight of the overlap term. -/
abbrev two : EReal := Ideal.ofBits .f32 0x40000000#32
/-- The value a largest-of fold starts from. -/
abbrev bot : EReal := Ideal.ofBits .f32 0xFF800000#32

/-- The edges (left, top, right, bottom) of a box given by centre and size. -/
def edges (p : Fin 4 → EReal) : Fin 4 → EReal :=
  ![p 0 - half * p 2, p 1 - half * p 3, p 0 + half * p 2, p 1 + half * p 3]

/-- The area of a box given by its edges. -/
def area (p : Fin 4 → EReal) : EReal := (p 2 - p 0) * (p 3 - p 1)

/-- The area common to two boxes given by their edges. -/
def inter (p g : Fin 4 → EReal) : EReal :=
  max 0 (min (p 2) (g 2) - max (p 0) (g 0)) * max 0 (min (p 3) (g 3) - max (p 1) (g 1))

/-- The area of the smallest box around two boxes given by their edges. -/
def hull (p g : Fin 4 → EReal) : EReal :=
  max 0 (max (p 2) (g 2) - min (p 0) (g 0)) * max 0 (max (p 3) (g 3) - min (p 1) (g 1))

/-- The area that two boxes given by their edges cover. -/
def union (p g : Fin 4 → EReal) : EReal := area p + area g - inter p g

/-- The generalized overlap of two boxes given by their edges. -/
def giou (p g : Fin 4 → EReal) : EReal :=
  Ideal.div (inter p g) (union p g + eps) - Ideal.div (hull p g - union p g) (hull p g + eps)

/-- The distance of two boxes, coordinate by coordinate. -/
def dist (p g : Fin 4 → EReal) : EReal := ∑ k : Fin 4, max (p k - g k) (-(p k - g k))

/-- The largest of a row of logits. -/
def top (x : Fin 81 → EReal) : EReal := Finset.univ.fold max bot x

/-- The softmax probability of class `l` in a row of logits. -/
def prob (x : Fin 81 → EReal) (l : Fin 81) : EReal :=
  Ideal.div (Ideal.exp (x l - top x)) (∑ k : Fin 81, Ideal.exp (x k - top x))

/-- The cost of matching a prediction (logits `x`, box `p`) to a target (label `l`, box `g`). -/
def cost (x : Fin 81 → EReal) (l : Fin 81) (p g : Fin 4 → EReal) : EReal :=
  five * dist p g + -prob x l + two * -giou (edges p) (edges g)

/-- The starting value of the largest-of fold is the least value. -/
theorem bot_eq : bot = ⊥ := by
  simp [Ideal.ofBits, Ideal.ieee]

end Cert.Match

end

end
-- ==== Proof.Soft.lean ====
module

public import proofs.«01_k».proof.Proof.Cost

/-! The softmax probability by a product with a one-hot column. -/

@[expose] public section

noncomputable section

namespace Cert.Match

open Idealize.ShloMosaic

/-- The largest of a nonempty finite row is one of its values. -/
theorem top_mem (x : Fin 81 → EReal) : ∃ k, top x = x k := by
  unfold top
  rw [bot_eq]
  have h : Finset.univ.fold max (⊥ : EReal) x = Finset.univ.sup x := rfl
  rw [h]
  obtain ⟨k, -, hk⟩ := Finset.exists_mem_eq_sup Finset.univ ⟨0, Finset.mem_univ _⟩ x
  exact ⟨k, hk⟩

/-- Among finite logits, the exponential of a logit less the largest is a positive real. -/
theorem exp_real (x : Fin 81 → EReal) (hx : ∀ k, x k ≠ ⊤ ∧ x k ≠ ⊥) :
    ∃ y : Fin 81 → ℝ, ∀ k, 0 < y k ∧ Ideal.exp (x k - top x) = (y k : EReal) := by
  obtain ⟨t, ht⟩ := top_mem x
  refine ⟨fun k => Real.exp ((x k).toReal - (x t).toReal), fun k => ⟨Real.exp_pos _, ?_⟩⟩
  rw [ht, ← EReal.coe_toReal (hx k).1 (hx k).2, ← EReal.coe_toReal (hx t).1 (hx t).2, ← EReal.coe_sub]
  rfl

/-- The product with a one-hot column and with the reciprocal of the sum is the probability of the marked class. -/
theorem prob_onehot (x e : Fin 81 → EReal) (l : Fin 81) (hx : ∀ k, x k ≠ ⊤ ∧ x k ≠ ⊥)
    (he : ∀ k, e k = if k = l then 1 else 0) :
    (∑ k, Ideal.exp (x k - top x) * e k) * Ideal.div (Ideal.ofBits .f32 0x3F800000#32) (∑ k, Ideal.exp (x k - top x))
      = prob x l := by
  obtain ⟨y, hy⟩ := exp_real x hx
  have hs : (∑ k, Ideal.exp (x k - top x)) = ((∑ k, y k : ℝ) : EReal) := by
    rw [Finset.sum_congr rfl fun k _ => (hy k).2]
    exact (map_sum (⟨⟨Real.toEReal, rfl⟩, EReal.coe_add⟩ : ℝ →+ EReal) y Finset.univ).symm
  have hpos : 0 < ∑ k, y k := Finset.sum_pos (fun k _ => (hy k).1) ⟨0, Finset.mem_univ _⟩
  have hone : Ideal.ofBits .f32 0x3F800000#32 = 1 := by
    simp [Ideal.ofBits, Ideal.ieee]
    rw [← EReal.coe_mul]
    norm_num
  have hsum : (∑ k, Ideal.exp (x k - top x) * e k) = Ideal.exp (x l - top x) := by
    rw [Finset.sum_eq_single l]
    · rw [he, if_pos rfl, mul_one]
    · intro k _ hk; rw [he, if_neg hk, mul_zero]
    · intro h; exact absurd (Finset.mem_univ _) h
  unfold prob
  rw [hsum, hs, Ideal.div_coe hpos.ne', Ideal.div_coe hpos.ne', hone, one_mul]

end Cert.Match
-- ==== Proof.KCost.lean ====
module

public import proofs.«01_k».proof.Defs
public import proofs.«01_k».proof.Proof.Gen.KernelIdeal.Frame
public import proofs.«01_k».proof.Proof.Cost
public import proofs.«01_k».proof.Proof.Soft
public import Idealize.ShloMosaic.Lib.Claim
public import Idealize.ShloMosaic.Lib.Pipeline.ValueKit
public import Idealize.ShloMosaic.Lib.Pointwise

/-! The kernel's cost block, read at a prediction and a target: the scalar cost. -/

@[expose] public section

set_option maxRecDepth 16384

noncomputable section

namespace Cert.KernelIdeal.Value

open Idealize.ShloMosaic Idealize.ShloMosaic.TcCoe Idealize.SL.Sem
open Cert.KernelIdeal Cert.KernelIdeal.Gen

variable (x0 : FVec Ideal S1x81x100 .f32) (x1 : FVec Ideal S1x16x100 .f32) (x2 : FVec Ideal S1x1000x81 .f32) (x3 : FVec Ideal S1x1000x4 .f32)
variable (r : Fin 1000) (g : Fin 100) (k : Fin 4)

/-- The block of costs that one grid point computes from its four input blocks. -/
def kCost : FVec Ideal S1000x100 .f32 :=
  k0_pay29 (F := Ideal) (k0_pay7 (F := Ideal) x2 x0) (k0_pay14 (F := Ideal) x3) (k0_pay15 (F := Ideal) x3) (k0_pay16 (F := Ideal) x3) (k0_pay20 (F := Ideal) x1) (k0_pay21 (F := Ideal) x1) (k0_pay22 (F := Ideal) x1)
    (k0_pay23 (F := Ideal) (k0_pay9 (F := Ideal) x3) (k0_pay10 (F := Ideal) x3) (k0_pay11 (F := Ideal) x3) (k0_pay12 (F := Ideal) x3) x1)
    (k0_pay25 (F := Ideal) (k0_pay13 (F := Ideal) x3) (k0_pay14 (F := Ideal) x3) (k0_pay15 (F := Ideal) x3) (k0_pay16 (F := Ideal) x3) (k0_pay17 (F := Ideal) x3) x1)
    (k0_pay26 (F := Ideal) (k0_pay13 (F := Ideal) x3) (k0_pay14 (F := Ideal) x3) (k0_pay15 (F := Ideal) x3) (k0_pay16 (F := Ideal) x3) (k0_pay17 (F := Ideal) x3) x1)
    (k0_pay27 (F := Ideal) (k0_pay13 (F := Ideal) x3)) (k0_pay28 (F := Ideal) x1)

/-- The probability by a product with the one-hot columns and the reciprocal of the row's sum. -/
theorem pay7_at : k0_pay7 (F := Ideal) x2 x0 (ix2 r g)
    = (∑ l : Fin 81, Ideal.exp (x2 (ix3 0 r l) - Match.top fun k => x2 (ix3 0 r k)) * x0 (ix3 0 l g))
      * Ideal.div (Ideal.ofBits .f32 0x3F800000#32) (∑ l : Fin 81, Ideal.exp (x2 (ix3 0 r l) - Match.top fun k => x2 (ix3 0 r k))) := by
  unfold Match.top
  pointwise [k0_pay7]

/-- The box's centre, first coordinate. -/
theorem pay9_at : k0_pay9 (F := Ideal) x3 (ix2 r 0) = x3 (ix3 0 r 0) := by pointwise [k0_pay9, k0_pay8]
/-- The box's centre, second coordinate. -/
theorem pay10_at : k0_pay10 (F := Ideal) x3 (ix2 r 0) = x3 (ix3 0 r 1) := by pointwise [k0_pay10, k0_pay8]
/-- The box's width. -/
theorem pay11_at : k0_pay11 (F := Ideal) x3 (ix2 r 0) = x3 (ix3 0 r 2) := by pointwise [k0_pay11, k0_pay8]
/-- The box's height. -/
theorem pay12_at : k0_pay12 (F := Ideal) x3 (ix2 r 0) = x3 (ix3 0 r 3) := by pointwise [k0_pay12, k0_pay8]

/-- The left edge. -/
theorem pay13_at : k0_pay13 (F := Ideal) x3 (ix2 r 0) = Match.edges (fun k => x3 (ix3 0 r k)) 0 := by
  have e : k0_pay13 (F := Ideal) x3 (ix2 r 0) = k0_pay9 (F := Ideal) x3 (ix2 r 0) - Ideal.ofBits .f32 0x3F000000#32 * k0_pay11 (F := Ideal) x3 (ix2 r 0) := by pointwise [k0_pay13]
  rw [e, pay9_at, pay11_at]; rfl
/-- The top edge. -/
theorem pay14_at : k0_pay14 (F := Ideal) x3 (ix2 r 0) = Match.edges (fun k => x3 (ix3 0 r k)) 1 := by
  have e : k0_pay14 (F := Ideal) x3 (ix2 r 0) = k0_pay10 (F := Ideal) x3 (ix2 r 0) - Ideal.ofBits .f32 0x3F000000#32 * k0_pay12 (F := Ideal) x3 (ix2 r 0) := by pointwise [k0_pay14]
  rw [e, pay10_at, pay12_at]; rfl
/-- The right edge. -/
theorem pay15_at : k0_pay15 (F := Ideal) x3 (ix2 r 0) = Match.edges (fun k => x3 (ix3 0 r k)) 2 := by
  have e : k0_pay15 (F := Ideal) x3 (ix2 r 0) = k0_pay9 (F := Ideal) x3 (ix2 r 0) + Ideal.ofBits .f32 0x3F000000#32 * k0_pay11 (F := Ideal) x3 (ix2 r 0) := by pointwise [k0_pay15]
  rw [e, pay9_at, pay11_at]; rfl
/-- The bottom edge. -/
theorem pay16_at : k0_pay16 (F := Ideal) x3 (ix2 r 0) = Match.edges (fun k => x3 (ix3 0 r k)) 3 := by
  have e : k0_pay16 (F := Ideal) x3 (ix2 r 0) = k0_pay10 (F := Ideal) x3 (ix2 r 0) + Ideal.ofBits .f32 0x3F000000#32 * k0_pay12 (F := Ideal) x3 (ix2 r 0) := by pointwise [k0_pay16]
  rw [e, pay10_at, pay12_at]; rfl

/-- The area of the predicted box. -/
theorem pay17_at : k0_pay17 (F := Ideal) x3 (ix2 r 0) = Match.area (Match.edges fun k => x3 (ix3 0 r k)) := by
  have e : k0_pay17 (F := Ideal) x3 (ix2 r 0) = (k0_pay15 (F := Ideal) x3 (ix2 r 0) - k0_pay13 (F := Ideal) x3 (ix2 r 0)) * (k0_pay16 (F := Ideal) x3 (ix2 r 0) - k0_pay14 (F := Ideal) x3 (ix2 r 0)) := by
    pointwise [k0_pay17]
  rw [e, pay13_at, pay14_at, pay15_at, pay16_at]; rfl

/-- The target's left edge is row 4 of the packed targets. -/
theorem pay19_at : k0_pay19 (F := Ideal) x1 (ix2 0 g) = x1 (ix3 0 4 g) := by pointwise [k0_pay19, k0_pay18]
/-- The target's top edge is row 5. -/
theorem pay20_at : k0_pay20 (F := Ideal) x1 (ix2 0 g) = x1 (ix3 0 5 g) := by pointwise [k0_pay20, k0_pay18]
/-- The target's right edge is row 6. -/
theorem pay21_at : k0_pay21 (F := Ideal) x1 (ix2 0 g) = x1 (ix3 0 6 g) := by pointwise [k0_pay21, k0_pay18]
/-- The target's bottom edge is row 7. -/
theorem pay22_at : k0_pay22 (F := Ideal) x1 (ix2 0 g) = x1 (ix3 0 7 g) := by pointwise [k0_pay22, k0_pay18]

/-- A row of the packed targets. -/
theorem pay18_at (j : Fin 16) : k0_pay18 (F := Ideal) x1 (ix2 j g) = x1 (ix3 0 j g) := by pointwise [k0_pay18]

/-- The distance of the boxes, over the four packed rows. -/
theorem pay23_at (a b c d : FVec Ideal S1000x1 .f32) : k0_pay23 (F := Ideal) a b c d x1 (ix2 r g)
    = max (a (ix2 r 0) - k0_pay18 (F := Ideal) x1 (ix2 0 g)) (-(a (ix2 r 0) - k0_pay18 (F := Ideal) x1 (ix2 0 g)))
      + max (b (ix2 r 0) - k0_pay18 (F := Ideal) x1 (ix2 1 g)) (-(b (ix2 r 0) - k0_pay18 (F := Ideal) x1 (ix2 1 g)))
      + max (c (ix2 r 0) - k0_pay18 (F := Ideal) x1 (ix2 2 g)) (-(c (ix2 r 0) - k0_pay18 (F := Ideal) x1 (ix2 2 g)))
      + max (d (ix2 r 0) - k0_pay18 (F := Ideal) x1 (ix2 3 g)) (-(d (ix2 r 0) - k0_pay18 (F := Ideal) x1 (ix2 3 g))) := by
  pointwise [k0_pay23]
  rfl

/-- The common area. -/
theorem pay24_at (a b c d : FVec Ideal S1000x1 .f32) : k0_pay24 (F := Ideal) a b c d x1 (ix2 r g)
    = max (min (c (ix2 r 0)) (k0_pay21 (F := Ideal) x1 (ix2 0 g)) - max (a (ix2 r 0)) (k0_pay19 (F := Ideal) x1 (ix2 0 g))) 0
      * max (min (d (ix2 r 0)) (k0_pay22 (F := Ideal) x1 (ix2 0 g)) - max (b (ix2 r 0)) (k0_pay20 (F := Ideal) x1 (ix2 0 g))) 0 := by
  pointwise [k0_pay24]

/-- The covered area. -/
theorem pay25_at (a b c d e : FVec Ideal S1000x1 .f32) : k0_pay25 (F := Ideal) a b c d e x1 (ix2 r g)
    = e (ix2 r 0) + k0_pay18 (F := Ideal) x1 (ix2 8 g) - k0_pay24 (F := Ideal) a b c d x1 (ix2 r g) := by
  pointwise [k0_pay25]

/-- The overlap. -/
theorem pay26_at (a b c d e : FVec Ideal S1000x1 .f32) : k0_pay26 (F := Ideal) a b c d e x1 (ix2 r g)
    = Ideal.div (k0_pay24 (F := Ideal) a b c d x1 (ix2 r g)) (k0_pay25 (F := Ideal) a b c d e x1 (ix2 r g) + Ideal.ofBits .f32 0x322BCC77#32) := by
  pointwise [k0_pay26]

/-- A column along the targets. -/
theorem pay27_at (a : FVec Ideal S1000x1 .f32) : k0_pay27 (F := Ideal) a (ix2 r g) = a (ix2 r 0) := by pointwise [k0_pay27]

/-- The targets' left edges along the predictions. -/
theorem pay28_at : k0_pay28 (F := Ideal) x1 (ix2 r g) = k0_pay19 (F := Ideal) x1 (ix2 0 g) := by pointwise [k0_pay28]

/-- The hull's area, of its corner values. -/
def hullOf (a b : EReal) (v27 v30 v33 : FVec Ideal S1000x1 .f32) (v44 v45 v46 : FVec Ideal S1x100 .f32) : EReal :=
  max (max (v30 (ix2 r 0)) (v45 (ix2 0 g)) - min a b) 0
    * max (max (v33 (ix2 r 0)) (v46 (ix2 0 g)) - min (v27 (ix2 r 0)) (v44 (ix2 0 g))) 0

/-- The cost, of its parts. -/
theorem pay29_at (v15 v66 v89 v92 v93 v94 : FVec Ideal S1000x100 .f32) (v27 v30 v33 : FVec Ideal S1000x1 .f32)
    (v44 v45 v46 : FVec Ideal S1x100 .f32) : k0_pay29 (F := Ideal) v15 v27 v30 v33 v44 v45 v46 v66 v89 v92 v93 v94 (ix2 r g)
    = Ideal.ofBits .f32 0x40A00000#32 * v66 (ix2 r g) + (0 - v15 (ix2 r g))
      + Ideal.ofBits .f32 0x40000000#32 * (0 - (v92 (ix2 r g) -
          Ideal.div (hullOf r g (v93 (ix2 r g)) (v94 (ix2 r g)) v27 v30 v33 v44 v45 v46 - v89 (ix2 r g))
            (hullOf r g (v93 (ix2 r g)) (v94 (ix2 r g)) v27 v30 v33 v44 v45 v46 + Ideal.ofBits .f32 0x322BCC77#32))) := by
  unfold hullOf
  pointwise [k0_pay29]

/-- What the packed target block holds at target `g`: the box, its edges, its area. -/
structure Packed (G : Fin 4 → EReal) : Prop where
  box : ∀ k : Fin 4, x1 (ix3 0 ⟨k.val, by omega⟩ g) = G k
  edges : ∀ k : Fin 4, x1 (ix3 0 ⟨4 + k.val, by omega⟩ g) = Match.edges G k
  area : x1 (ix3 0 8 g) = Match.area (Match.edges G)

variable (G : Fin 4 → EReal) (hG : Packed x1 g G)

include hG

/-- The common area, of the boxes. -/
theorem inter_at : k0_pay24 (F := Ideal) (k0_pay13 x3) (k0_pay14 x3) (k0_pay15 x3) (k0_pay16 x3) x1 (ix2 r g)
    = Match.inter (Match.edges fun k => x3 (ix3 0 r k)) (Match.edges G) := by
  have h0 := hG.edges 0
  have h1 := hG.edges 1
  have h2 := hG.edges 2
  have h3 := hG.edges 3
  rw [pay24_at, pay13_at, pay14_at, pay15_at, pay16_at, pay19_at, pay20_at, pay21_at, pay22_at, Match.inter,
    ← h0, ← h1, ← h2, ← h3, max_comm _ (0 : EReal), max_comm _ (0 : EReal)]
  rfl

/-- The covered area, of the boxes. -/
theorem union_at : k0_pay25 (F := Ideal) (k0_pay13 x3) (k0_pay14 x3) (k0_pay15 x3) (k0_pay16 x3) (k0_pay17 x3) x1 (ix2 r g)
    = Match.union (Match.edges fun k => x3 (ix3 0 r k)) (Match.edges G) := by
  rw [pay25_at, inter_at (hG := hG), pay17_at, pay18_at, hG.area, Match.union]

/-- The hull's area, of the boxes. -/
theorem hull_at : hullOf r g (k0_pay27 (F := Ideal) (k0_pay13 x3) (ix2 r g)) (k0_pay28 (F := Ideal) x1 (ix2 r g)) (k0_pay14 x3) (k0_pay15 x3)
      (k0_pay16 x3) (k0_pay20 x1) (k0_pay21 x1) (k0_pay22 x1)
    = Match.hull (Match.edges fun k => x3 (ix3 0 r k)) (Match.edges G) := by
  have h0 := hG.edges 0
  have h1 := hG.edges 1
  have h2 := hG.edges 2
  have h3 := hG.edges 3
  unfold hullOf
  rw [pay27_at, pay28_at, pay13_at, pay14_at, pay15_at, pay16_at, pay19_at, pay20_at, pay21_at, pay22_at, Match.hull,
    ← h0, ← h1, ← h2, ← h3, max_comm _ (0 : EReal), max_comm _ (0 : EReal)]
  rfl

/-- The distance, of the boxes. -/
theorem dist_at : k0_pay23 (F := Ideal) (k0_pay9 x3) (k0_pay10 x3) (k0_pay11 x3) (k0_pay12 x3) x1 (ix2 r g)
    = Match.dist (fun k => x3 (ix3 0 r k)) G := by
  have h0 := hG.box 0
  have h1 := hG.box 1
  have h2 := hG.box 2
  have h3 := hG.box 3
  rw [pay23_at, pay9_at, pay10_at, pay11_at, pay12_at, pay18_at, pay18_at, pay18_at, pay18_at, Match.dist, Fin.sum_univ_four,
    ← h0, ← h1, ← h2, ← h3]
  rfl

/-- THE KERNEL'S COST: at a prediction with finite logits and a target packed with its label's one-hot column, the
    scalar cost. -/
theorem kCost_at (l : Fin 81) (hl : ∀ k : Fin 81, x0 (ix3 0 k g) = if k = l then 1 else 0)
    (hx : ∀ k, x2 (ix3 0 r k) ≠ ⊤ ∧ x2 (ix3 0 r k) ≠ ⊥) :
    kCost x0 x1 x2 x3 (ix2 r g) = Match.cost (fun k => x2 (ix3 0 r k)) l (fun k => x3 (ix3 0 r k)) G := by
  unfold kCost
  rw [pay29_at, hull_at (hG := hG), union_at (hG := hG), pay26_at, inter_at (hG := hG), union_at (hG := hG),
    dist_at (hG := hG), pay7_at, Match.prob_onehot (fun k => x2 (ix3 0 r k)) (fun k => x0 (ix3 0 k g)) l hx hl,
    Match.cost, Match.giou, zero_sub, zero_sub]

end Cert.KernelIdeal.Value
-- ==== Proof.Least.lean ====
module

public import proofs.«01_k».proof.Proof.Cost

/-! The least value of a sequence and the first position holding it: how such pairs of neighbouring stretches combine, and
    that a block's own minimum with the least of the positions attaining it is such a pair. -/

@[expose] public section

noncomputable section

namespace Cert.Match

open Idealize.ShloMosaic

/-- Over the positions from `a` up to `b`, the sequence's least value is `v` and its first position is `i`. -/
structure FirstMin (f : ℕ → EReal) (a b : ℕ) (v : EReal) (i : ℕ) : Prop where
  lo : a ≤ i
  hi : i < b
  val : v = f i
  le : ∀ q, a ≤ q → q < b → v ≤ f q
  lt : ∀ q, a ≤ q → q < i → v < f q

variable {f : ℕ → EReal} {a b c i j : ℕ} {v w : EReal}

/-- The least value and its first position are determined by the sequence. -/
theorem FirstMin.unique (h : FirstMin f a b v i) (k : FirstMin f a b w j) : v = w ∧ i = j := by
  have e : i = j := by
    rcases lt_trichotomy i j with hlt | heq | hgt
    · have h1 := k.lt i h.lo hlt
      have h2 := h.le j k.lo k.hi
      rw [← h.val] at h1
      rw [← k.val] at h2
      exact absurd (lt_of_lt_of_le h1 h2) (lt_irrefl _)
    · exact heq
    · have h1 := h.lt j k.lo hgt
      have h2 := k.le i h.lo h.hi
      rw [← k.val] at h1
      rw [← h.val] at h2
      exact absurd (lt_of_lt_of_le h1 h2) (lt_irrefl _)
  exact ⟨by rw [h.val, k.val, e], e⟩

/-- Two neighbouring stretches: the second's pair replaces the first's exactly when its value is less. -/
theorem FirstMin.append (h : FirstMin f a b v i) (k : FirstMin f b c w j) :
    FirstMin f a c (if w < v then w else v) (if w < v then j else i) := by
  have hab : a < b := lt_of_le_of_lt h.lo h.hi
  have hbc : b < c := lt_of_le_of_lt k.lo k.hi
  by_cases hw : w < v
  · rw [if_pos hw, if_pos hw]
    refine ⟨by have := k.lo; omega, k.hi, k.val, fun q h1 h2 => ?_, fun q h1 h2 => ?_⟩
    · by_cases hq : q < b
      · exact (hw.trans_le (h.le q h1 hq)).le
      · exact k.le q (by omega) h2
    · by_cases hq : q < b
      · exact hw.trans_le (h.le q h1 hq)
      · exact k.lt q (by omega) h2
  · rw [if_neg hw, if_neg hw]
    refine ⟨h.lo, by have := h.hi; omega, h.val, fun q h1 h2 => ?_, h.lt⟩
    by_cases hq : q < b
    · exact h.le q h1 hq
    · exact (not_lt.mp hw).trans (k.le q (by omega) h2)

/-- From the greatest value at position 0, the first stretch's pair replaces the start exactly when its value is less. -/
theorem FirstMin.start (k : FirstMin f 0 b w j) :
    FirstMin f 0 b (if w < ⊤ then w else ⊤) (if w < ⊤ then j else 0) := by
  by_cases hw : w < ⊤
  · rw [if_pos hw, if_pos hw]; exact k
  · rw [if_neg hw, if_neg hw]
    have hw' : w = ⊤ := not_lt_top_iff.mp hw
    have hall : ∀ q, q < b → f q = ⊤ := fun q hq => top_le_iff.mp (hw' ▸ k.le q (Nat.zero_le _) hq)
    have hb : 0 < b := lt_of_le_of_lt (Nat.zero_le _) k.hi
    exact ⟨le_rfl, hb, (hall 0 hb).symm, fun q _ h2 => (hall q h2).symm.le, fun q _ h2 => absurd h2 (Nat.not_lt_zero _)⟩

/-- The signed minimum of two words is one of them. -/
theorem minsi_cases (x y : BitVec 32) : IntOp.minsi x y = x ∨ IntOp.minsi x y = y := by
  unfold IntOp.minsi
  split
  · exact Or.inl rfl
  · exact Or.inr rfl

/-- The signed minimum of two words is at most each, read signed. -/
theorem minsi_le (x y : BitVec 32) : (IntOp.minsi x y).toInt ≤ x.toInt ∧ (IntOp.minsi x y).toInt ≤ y.toInt := by
  unfold IntOp.minsi
  split
  · rename_i h
    simp [BitVec.slt, BitVec.sle] at h
    omega
  · rename_i h
    simp [BitVec.slt, BitVec.sle] at h
    omega

/-- A fold of the signed minimum is at most every entry, and is an entry or the start. -/
theorem minsi_fold {n : ℕ} (z : BitVec 32) (h : Fin n → BitVec 32) (s : Finset (Fin n)) :
    (∀ r ∈ s, (s.fold IntOp.minsi z h).toInt ≤ (h r).toInt) ∧ (s.fold IntOp.minsi z h).toInt ≤ z.toInt
      ∧ (s.fold IntOp.minsi z h = z ∨ ∃ r ∈ s, s.fold IntOp.minsi z h = h r) := by
  classical
  induction s using Finset.induction_on with
  | empty => exact ⟨fun r hr => absurd hr (Finset.notMem_empty r), le_rfl, Or.inl rfl⟩
  | insert r s hr ih =>
    rw [Finset.fold_insert hr]
    obtain ⟨ih1, ih2, ih3⟩ := ih
    have hle := minsi_le (h r) (s.fold IntOp.minsi z h)
    refine ⟨fun q hq => ?_, hle.2.trans ih2, ?_⟩
    · rcases Finset.mem_insert.mp hq with rfl | hq
      · exact hle.1
      · exact hle.2.trans (ih1 q hq)
    · rcases minsi_cases (h r) (s.fold IntOp.minsi z h) with e | e
      · exact Or.inr ⟨r, Finset.mem_insert_self r s, e⟩
      · rw [e]
        rcases ih3 with e' | ⟨q, hq, e'⟩
        · exact Or.inl e'
        · exact Or.inr ⟨q, Finset.mem_insert_of_mem hq, e'⟩

/-- A block's minimum, with the least of the positions that attain it, is the pair of its stretch. -/
theorem firstMin_block (G : Fin 1000 → EReal) (word : Fin 1000 → BitVec 32) (ha : a ≤ 19000)
    (hG : ∀ r, G r = f (a + r.val)) (hword : ∀ r, (word r).toNat = a + r.val) (W : EReal)
    (hW : W = Finset.univ.fold min ⊤ G) :
    FirstMin f a (a + 1000) W
      (Finset.univ.fold IntOp.minsi 2147483647#32 fun r => if G r = W then word r else 1073741824#32).toNat := by
  have hinf : W = Finset.univ.inf G := hW
  obtain ⟨m, -, hm⟩ := Finset.exists_mem_eq_inf Finset.univ ⟨0, Finset.mem_univ _⟩ G
  have hmW : G m = W := hm ▸ hinf.symm ▸ rfl
  have hle : ∀ r, W ≤ G r := fun r => hinf ▸ Finset.inf_le (Finset.mem_univ r)
  obtain ⟨h1, -, h3⟩ := minsi_fold 2147483647#32 (fun r => if G r = W then word r else 1073741824#32) Finset.univ
  generalize Finset.univ.fold IntOp.minsi 2147483647#32 (fun r => if G r = W then word r else 1073741824#32) = J at h1 h3 ⊢
  have hint : ∀ r, (word r).toInt = (a + r.val : ℕ) := fun r => by
    rw [BitVec.toInt_eq_toNat_of_lt (by rw [hword]; omega), hword]
  have hJ : ∃ r, G r = W ∧ J = word r := by
    have hJm := h1 m (Finset.mem_univ m)
    rw [if_pos hmW, hint] at hJm
    rcases h3 with e | ⟨r, -, e⟩
    · rw [e] at hJm
      have : (2147483647#32).toInt = 2147483647 := by decide
      omega
    · by_cases hr : G r = W
      · rw [if_pos hr] at e; exact ⟨r, hr, e⟩
      · rw [if_neg hr] at e
        rw [e] at hJm
        have : (1073741824#32).toInt = 1073741824 := by decide
        omega
  obtain ⟨r, hr, rfl⟩ := hJ
  rw [hword]
  refine ⟨by omega, by omega, by rw [← hG, hr], fun q h4 h5 => ?_, fun q h4 h5 => ?_⟩
  · have := hle ⟨q - a, by omega⟩
    rw [hG] at this
    rwa [show a + (q - a) = q by omega] at this
  · have hq := hle ⟨q - a, by omega⟩
    have hfq : G ⟨q - a, by omega⟩ = f q := by rw [hG]; exact congrArg f (by show a + (q - a) = q; omega)
    rw [hfq] at hq
    refine lt_of_le_of_ne hq fun e => ?_
    have := h1 ⟨q - a, by omega⟩ (Finset.mem_univ _)
    rw [if_pos (hfq.trans e.symm), hint, hint] at this
    simp only at this
    omega

end Cert.Match
-- ==== Proof.KBlock.lean ====
module

public import proofs.«01_k».proof.Defs
public import proofs.«01_k».proof.Proof.Gen.KernelIdeal.Frame
public import proofs.«01_k».proof.Proof.Cost
public import proofs.«01_k».proof.Proof.Soft
public import proofs.«01_k».proof.Proof.KCost
public import proofs.«01_k».proof.Proof.Least
public import Idealize.ShloMosaic.Lib.Claim
public import Idealize.ShloMosaic.Lib.Pipeline.ValueKit
public import Idealize.ShloMosaic.Lib.Pointwise

/-! What one grid point makes of its block of costs: the block's least cost and its first position, merged into what the points before left. -/

@[expose] public section

set_option maxRecDepth 16384

noncomputable section

namespace Cert.KernelIdeal.Value

open Idealize.ShloMosaic Idealize.ShloMosaic.TcCoe Idealize.SL.Sem
open Cert.KernelIdeal Cert.KernelIdeal.Gen

variable (r : Fin 1000) (g : Fin 100)
variable (v15 v66 v89 v92 v93 v94 : FVec Ideal S1000x100 .f32) (v27 v30 v33 : FVec Ideal S1000x1 .f32)
    (v44 v45 v46 : FVec Ideal S1x100 .f32)

/-- The greatest value is the pattern that the least-of folds start from. -/
theorem top_eq : Ideal.ofBits .f32 0x7F800000#32 = ⊤ := by
  simp [Ideal.ofBits, Ideal.ieee]

/-- The block's least cost is the fold of the minimum along the predictions. -/
theorem pay30_at : k0_pay30 v15 v27 v30 v33 v44 v45 v46 v66 v89 v92 v93 v94 (ix2 0 g)
    = Finset.univ.fold min (Ideal.ofBits .f32 0x7F800000#32) fun r : Fin 1000 => k0_pay29 v15 v27 v30 v33 v44 v45 v46 v66 v89 v92 v93 v94 (ix2 r g) := by
  pointwise [k0_pay30]

/-- The block's position is the fold of the signed minimum over the positions that attain the least cost. -/
theorem pay31_at (a : BitVec 32) : k0_pay31 a v15 v27 v30 v33 v44 v45 v46 v66 v89 v92 v93 v94 (ix2 0 g)
    = Finset.univ.fold IntOp.minsi 2147483647#32 fun r : Fin 1000 =>
        if k0_pay29 v15 v27 v30 v33 v44 v45 v46 v66 v89 v92 v93 v94 (ix2 r g)
            = k0_pay30 v15 v27 v30 v33 v44 v45 v46 v66 v89 v92 v93 v94 (ix2 0 g)
          then a * 1000#32 + BitVec.ofNat 32 r.val else 1073741824#32 := by
  pointwise [k0_pay31]
  rfl

/-- The merged least cost. -/
theorem pay5_at (v : FVec Ideal S1x100 .f32) (w : FVec Ideal S1x1x100 .f32) : k0_pay5 v w (ix3 0 0 g)
    = if v (ix2 0 g) < w (ix3 0 0 g) then v (ix2 0 g) else w (ix3 0 0 g) := by
  pointwise [k0_pay5, k0_pay4, k0_pay3]

/-- The merged position. -/
theorem pay6_at (v : FVec Ideal S1x100 .f32) (w : FVec Ideal S1x1x100 .f32) (i : IVec S1x100 32) (j : IVec S1x1x100 32) :
    k0_pay6 v i w j (ix3 0 0 g) = if v (ix2 0 g) < w (ix3 0 0 g) then i (ix2 0 g) else j (ix3 0 0 g) := by
  pointwise [k0_pay6, k0_pay4, k0_pay3]

/-- The least cost starts from the greatest value. -/
theorem pay1_at : k0_pay1 (F := Ideal) (ix3 0 0 g) = Ideal.ofBits .f32 0x7F800000#32 := by
  pointwise [k0_pay1]

/-- The position starts from 0. -/
theorem pay2_at : k0_pay2 (ix3 0 0 g) = 0#32 := by
  pointwise [k0_pay2]

/-- Of any parts, a block's least cost and position are the pair of its stretch of the sequence of costs. -/
theorem parts_pair (f : ℕ → EReal) (n : ℕ) (hn : n < 20)
    (hf : ∀ r : Fin 1000, k0_pay29 v15 v27 v30 v33 v44 v45 v46 v66 v89 v92 v93 v94 (ix2 r g) = f (1000 * n + r.val)) :
    Match.FirstMin f (1000 * n) (1000 * n + 1000) (k0_pay30 v15 v27 v30 v33 v44 v45 v46 v66 v89 v92 v93 v94 (ix2 0 g))
      (k0_pay31 (BitVec.ofNat 32 n) v15 v27 v30 v33 v44 v45 v46 v66 v89 v92 v93 v94 (ix2 0 g)).toNat := by
  have e1 : k0_pay30 v15 v27 v30 v33 v44 v45 v46 v66 v89 v92 v93 v94 (ix2 0 g) = _ := pay30_at g v15 v66 v89 v92 v93 v94 v27 v30 v33 v44 v45 v46
  rw [top_eq] at e1
  rw [pay31_at]
  refine Match.firstMin_block (f := f) (a := 1000 * n) _ _ (by omega) hf (fun r => ?_) _ e1
  have hr := r.isLt
  simp only [BitVec.toNat_add, BitVec.toNat_mul, BitVec.toNat_ofNat]
  omega

variable (x0 : FVec Ideal S1x81x100 .f32) (x1 : FVec Ideal S1x16x100 .f32) (x2 : FVec Ideal S1x1000x81 .f32) (x3 : FVec Ideal S1x1000x4 .f32)

/-- The least costs of a block, per target. -/
def kMin : FVec Ideal S1x100 .f32 :=
  k0_pay30 (F := Ideal) (k0_pay7 (F := Ideal) x2 x0) (k0_pay14 (F := Ideal) x3) (k0_pay15 (F := Ideal) x3) (k0_pay16 (F := Ideal) x3) (k0_pay20 (F := Ideal) x1) (k0_pay21 (F := Ideal) x1) (k0_pay22 (F := Ideal) x1)
    (k0_pay23 (F := Ideal) (k0_pay9 (F := Ideal) x3) (k0_pay10 (F := Ideal) x3) (k0_pay11 (F := Ideal) x3) (k0_pay12 (F := Ideal) x3) x1)
    (k0_pay25 (F := Ideal) (k0_pay13 (F := Ideal) x3) (k0_pay14 (F := Ideal) x3) (k0_pay15 (F := Ideal) x3) (k0_pay16 (F := Ideal) x3) (k0_pay17 (F := Ideal) x3) x1)
    (k0_pay26 (F := Ideal) (k0_pay13 (F := Ideal) x3) (k0_pay14 (F := Ideal) x3) (k0_pay15 (F := Ideal) x3) (k0_pay16 (F := Ideal) x3) (k0_pay17 (F := Ideal) x3) x1)
    (k0_pay27 (F := Ideal) (k0_pay13 (F := Ideal) x3)) (k0_pay28 (F := Ideal) x1)

/-- The first positions of a block's least costs, per target, for the block numbered by a word. -/
def kIdx (a : BitVec 32) : IVec S1x100 32 :=
  k0_pay31 (F := Ideal) a (k0_pay7 (F := Ideal) x2 x0) (k0_pay14 (F := Ideal) x3) (k0_pay15 (F := Ideal) x3) (k0_pay16 (F := Ideal) x3) (k0_pay20 (F := Ideal) x1) (k0_pay21 (F := Ideal) x1) (k0_pay22 (F := Ideal) x1)
    (k0_pay23 (F := Ideal) (k0_pay9 (F := Ideal) x3) (k0_pay10 (F := Ideal) x3) (k0_pay11 (F := Ideal) x3) (k0_pay12 (F := Ideal) x3) x1)
    (k0_pay25 (F := Ideal) (k0_pay13 (F := Ideal) x3) (k0_pay14 (F := Ideal) x3) (k0_pay15 (F := Ideal) x3) (k0_pay16 (F := Ideal) x3) (k0_pay17 (F := Ideal) x3) x1)
    (k0_pay26 (F := Ideal) (k0_pay13 (F := Ideal) x3) (k0_pay14 (F := Ideal) x3) (k0_pay15 (F := Ideal) x3) (k0_pay16 (F := Ideal) x3) (k0_pay17 (F := Ideal) x3) x1)
    (k0_pay27 (F := Ideal) (k0_pay13 (F := Ideal) x3)) (k0_pay28 (F := Ideal) x1)

/-- A block's least cost and position are the pair of its stretch of the sequence of costs. -/
theorem block_pair (f : ℕ → EReal) (n : ℕ) (hn : n < 20) (hf : ∀ r : Fin 1000, kCost x0 x1 x2 x3 (ix2 r g) = f (1000 * n + r.val)) :
    Match.FirstMin f (1000 * n) (1000 * n + 1000) (kMin x0 x1 x2 x3 (ix2 0 g)) (kIdx x0 x1 x2 x3 (BitVec.ofNat 32 n) (ix2 0 g)).toNat := by
  unfold kMin kIdx
  unfold kCost at hf
  exact parts_pair g _ _ _ _ _ _ _ _ _ _ _ _ f n hn hf

/-- At the first block, the merged pair is the pair of the stretch read so far. -/
theorem start_pair (f : ℕ → EReal) (hf : ∀ r : Fin 1000, kCost x0 x1 x2 x3 (ix2 r g) = f r.val) :
    Match.FirstMin f 0 1000 (k0_pay5 (kMin x0 x1 x2 x3) (k0_pay1 (F := Ideal)) (ix3 0 0 g))
      (k0_pay6 (kMin x0 x1 x2 x3) (kIdx x0 x1 x2 x3 (BitVec.ofNat 32 0)) (k0_pay1 (F := Ideal)) k0_pay2 (ix3 0 0 g)).toNat := by
  have h := (block_pair g x0 x1 x2 x3 f 0 (by omega) fun r => by rw [hf]; exact congrArg f (by omega)).start
  rw [pay5_at, pay6_at, pay1_at, pay2_at, top_eq, apply_ite BitVec.toNat]
  exact h

/-- At a later block, the merged pair is the pair of the stretch read so far. -/
theorem step_pair (f : ℕ → EReal) (n : ℕ) (hn : n < 20) (hf : ∀ r : Fin 1000, kCost x0 x1 x2 x3 (ix2 r g) = f (1000 * n + r.val))
    (v : FVec Ideal S1x1x100 .f32) (i : IVec S1x1x100 32)
    (hv : Match.FirstMin f 0 (1000 * n) (v (ix3 0 0 g)) (i (ix3 0 0 g)).toNat) :
    Match.FirstMin f 0 (1000 * n + 1000) (k0_pay5 (kMin x0 x1 x2 x3) v (ix3 0 0 g))
      (k0_pay6 (kMin x0 x1 x2 x3) (kIdx x0 x1 x2 x3 (BitVec.ofNat 32 n)) v i (ix3 0 0 g)).toNat := by
  have h := hv.append (block_pair g x0 x1 x2 x3 f n hn hf)
  rw [pay5_at, pay6_at, apply_ite BitVec.toNat]
  exact h

end Cert.KernelIdeal.Value
-- ==== Proof.KHost.lean ====
module

public import proofs.«01_k».proof.Defs
public import proofs.«01_k».proof.Proof.Gen.KernelIdeal.Frame
public import proofs.«01_k».proof.Proof.Cost
public import proofs.«01_k».proof.Proof.KCost
public import Idealize.ShloMosaic.Lib.Claim
public import Idealize.ShloMosaic.Lib.StableHlo.RunRead
public import Idealize.ShloMosaic.Lib.Pipeline.ValueKit
public import Idealize.ShloMosaic.Lib.Pointwise
public import Idealize.ShloMosaic.Lib.WordCmp

/-! What the lines before the grid leave in the two arrays the grid reads besides the arguments: the labels' one-hot columns and the
    targets' boxes, edges and areas. -/

@[expose] public section

set_option maxRecDepth 16384

noncomputable section

namespace Cert.KernelIdeal.Value

open Idealize.ShloMosaic Idealize.ShloMosaic.TcCoe Idealize.SL.Sem
open Cert.KernelIdeal Cert.KernelIdeal.Gen

attribute [local instance] Cert.KernelIdeal.Gen.facts

/-- The labels' one-hot columns. -/
def onehot (L : IVec S4x100 32) : FVec Ideal S4x81x100 .f32 :=
  uitofp .f32 (cmpi .eq
    (broadcastInDim S4x81x100 ![0, 1, 2] bcast_S4x1x100_S4x81x100_0_1_2 (broadcastInDim S4x1x100 ![0, 2] bcast_S4x100_S4x1x100_0_2 L))
    (broadcastInDim S4x81x100 ![0, 1, 2] bcast_S1x81x1_S4x81x100_0_1_2 (broadcastInDim S1x81x1 ![1] bcast_S81_S1x81x1_1 (iotaInDim S81 32 0))))

/-- The targets' centres along x. -/
def tcx (G : FVec Ideal S4x100x4 .f32) : FVec Ideal S4x100 .f32 :=
  shapeCast S4x100 (extractStridedSlice S4x100x1 ![0, 0, 0] G slices_S4x100x4_S4x100x1_0_0_0) shapeCasts_S4x100x1_S4x100
/-- The targets' centres along y. -/
def tcy (G : FVec Ideal S4x100x4 .f32) : FVec Ideal S4x100 .f32 :=
  shapeCast S4x100 (extractStridedSlice S4x100x1 ![0, 0, 1] G slices_S4x100x4_S4x100x1_0_0_1) shapeCasts_S4x100x1_S4x100
/-- The targets' widths. -/
def tw (G : FVec Ideal S4x100x4 .f32) : FVec Ideal S4x100 .f32 :=
  shapeCast S4x100 (extractStridedSlice S4x100x1 ![0, 0, 2] G slices_S4x100x4_S4x100x1_0_0_2) shapeCasts_S4x100x1_S4x100
/-- The targets' heights. -/
def th (G : FVec Ideal S4x100x4 .f32) : FVec Ideal S4x100 .f32 :=
  shapeCast S4x100 (extractStridedSlice S4x100x1 ![0, 0, 3] G slices_S4x100x4_S4x100x1_0_0_3) shapeCasts_S4x100x1_S4x100
/-- Half of an array. -/
def halved (x : FVec Ideal S4x100 .f32) : FVec Ideal S4x100 .f32 :=
  mulf (broadcastInDim S4x100 ![] bcast_S_S4x100 (constant S_ .f32 0x3F000000#32)) x
/-- An array as one row of each batch entry. -/
def asRow (x : FVec Ideal S4x100 .f32) : FVec Ideal S4x1x100 .f32 :=
  broadcastInDim S4x1x100 ![0, 2] bcast_S4x100_S4x1x100_0_2 x
/-- A row of zeros. -/
def zeroRow : FVec Ideal S4x1x100 .f32 :=
  asRow (broadcastInDim S4x100 ![] bcast_S_S4x100 (constant S_ .f32 0x00000000#32))
/-- The targets' areas, of two opposite corners. -/
def areaOf (x1 y1 x2 y2 : FVec Ideal S4x100 .f32) : FVec Ideal S4x100 .f32 := mulf (subf x2 x1) (subf y2 y1)
/-- Sixteen rows, one over the other. -/
def stack (r0 r1 r2 r3 r4 r5 r6 r7 r8 z : FVec Ideal S4x1x100 .f32) : FVec Ideal S4x16x100 .f32 :=
  concatenate S4x16x100 1 [⟨S4x1x100, r0⟩, ⟨S4x1x100, r1⟩, ⟨S4x1x100, r2⟩, ⟨S4x1x100, r3⟩, ⟨S4x1x100, r4⟩, ⟨S4x1x100, r5⟩,
    ⟨S4x1x100, r6⟩, ⟨S4x1x100, r7⟩, ⟨S4x1x100, r8⟩, ⟨S4x1x100, z⟩, ⟨S4x1x100, z⟩, ⟨S4x1x100, z⟩, ⟨S4x1x100, z⟩, ⟨S4x1x100, z⟩,
    ⟨S4x1x100, z⟩, ⟨S4x1x100, z⟩] concatenates_S4x1x100_S4x1x100_S4x1x100_S4x1x100_S4x1x100_S4x1x100_S4x1x100_S4x1x100_S4x1x100_S4x1x100_S4x1x100_S4x1x100_S4x1x100_S4x1x100_S4x1x100_S4x1x100_S4x16x100_d1
/-- The targets' boxes, edges and areas. -/
def packed (G : FVec Ideal S4x100x4 .f32) : FVec Ideal S4x16x100 .f32 :=
  stack (asRow (tcx G)) (asRow (tcy G)) (asRow (tw G)) (asRow (th G))
    (asRow (subf (tcx G) (halved (tw G)))) (asRow (subf (tcy G) (halved (th G))))
    (asRow (addf (tcx G) (halved (tw G)))) (asRow (addf (tcy G) (halved (th G))))
    (asRow (areaOf (subf (tcx G) (halved (tw G))) (subf (tcy G) (halved (th G)))
      (addf (tcx G) (halved (tw G))) (addf (tcy G) (halved (th G)))))
    zeroRow

variable (m : (ℓ : Loc nD τ sig) → Buf (Elt Ideal) ℓ) (c : Dev nD)

/-- The lines before the grid leave the labels' one-hot columns in the grid's first operand. -/
theorem V_onehot : V m c main_call0_v6 = onehot (m ((c : Thread nD τ).loc main_arg3)) := by
  unfold_abbrev_sides
  after_reads_simp
  rfl

set_option maxHeartbeats 8000000 in
/-- The lines before the grid leave the targets' boxes, edges and areas in the grid's second operand. -/
theorem V_packed : V m c main_call0_v47 = packed (m ((c : Thread nD τ).loc main_arg2)) := by
  unfold_abbrev_sides
  after_reads_simp
  rfl

/-- The one-hot columns at an entry: one where the label is the class, else zero. -/
theorem onehot_at (L : IVec S4x100 32) (b : Fin 4) (k : Fin 81) (g : Fin 100) :
    onehot L (ix3 b k g) = if (L (ix2 b g)).toNat = k.val then 1 else 0 := by
  pointwise [onehot]
  have h : ∀ (w : BitVec 32) (k : ℕ), k < 81 →
      FloatOps.uitofp (F := Ideal) FTy.f32 (IntOp.cmpi CmpIPredicate.eq w (BitVec.ofNat 32 k))
        = if w.toNat = k then 1 else 0 := by
    intro w k hk
    have e : (w = BitVec.ofNat 32 k) ↔ w.toNat = k := by
      constructor
      · rintro rfl; simp; omega
      · intro h; apply BitVec.eq_of_toNat_eq; simp; omega
    by_cases hw : w.toNat = k
    · rw [if_pos hw, e.mpr hw]
      simp [IntOp.cmpi, FloatOps.uitofp]
    · rw [if_neg hw]
      have := mt e.mp hw
      simp [IntOp.cmpi, FloatOps.uitofp, this]
  exact h _ _ k.isLt

/-- A row at an entry. -/
theorem asRow_at (x : FVec Ideal S4x100 .f32) (b : Fin 4) (g : Fin 100) : asRow x (ix3 b 0 g) = x (ix2 b g) := by
  pointwise [asRow]

/-- The half of an array at an entry. -/
theorem halved_at (x : FVec Ideal S4x100 .f32) (b : Fin 4) (g : Fin 100) : halved x (ix2 b g) = Match.half * x (ix2 b g) := by
  pointwise [halved, Match.half]

/-- The area at an entry. -/
theorem areaOf_at (x1 y1 x2 y2 : FVec Ideal S4x100 .f32) (b : Fin 4) (g : Fin 100) :
    areaOf x1 y1 x2 y2 (ix2 b g) = (x2 (ix2 b g) - x1 (ix2 b g)) * (y2 (ix2 b g) - y1 (ix2 b g)) := by
  pointwise [areaOf]

/-- The centres along x at an entry. -/
theorem tcx_at (G : FVec Ideal S4x100x4 .f32) (b : Fin 4) (g : Fin 100) : tcx G (ix2 b g) = G (ix3 b g 0) := by
  pointwise [tcx]

/-- The centres along y at an entry. -/
theorem tcy_at (G : FVec Ideal S4x100x4 .f32) (b : Fin 4) (g : Fin 100) : tcy G (ix2 b g) = G (ix3 b g 1) := by
  pointwise [tcy]

/-- The widths at an entry. -/
theorem tw_at (G : FVec Ideal S4x100x4 .f32) (b : Fin 4) (g : Fin 100) : tw G (ix2 b g) = G (ix3 b g 2) := by
  pointwise [tw]

/-- The heights at an entry. -/
theorem th_at (G : FVec Ideal S4x100x4 .f32) (b : Fin 4) (g : Fin 100) : th G (ix2 b g) = G (ix3 b g 3) := by
  pointwise [th]

/-- Row 0 of the sixteen. -/
theorem stack_at0 (r0 r1 r2 r3 r4 r5 r6 r7 r8 z : FVec Ideal S4x1x100 .f32) (b : Fin 4) (g : Fin 100) :
    stack r0 r1 r2 r3 r4 r5 r6 r7 r8 z (ix3 b 0 g) = r0 (ix3 b 0 g) := by
  pointwise [stack]

/-- Row 1 of the sixteen. -/
theorem stack_at1 (r0 r1 r2 r3 r4 r5 r6 r7 r8 z : FVec Ideal S4x1x100 .f32) (b : Fin 4) (g : Fin 100) :
    stack r0 r1 r2 r3 r4 r5 r6 r7 r8 z (ix3 b 1 g) = r1 (ix3 b 0 g) := by
  pointwise [stack]

/-- Row 2 of the sixteen. -/
theorem stack_at2 (r0 r1 r2 r3 r4 r5 r6 r7 r8 z : FVec Ideal S4x1x100 .f32) (b : Fin 4) (g : Fin 100) :
    stack r0 r1 r2 r3 r4 r5 r6 r7 r8 z (ix3 b 2 g) = r2 (ix3 b 0 g) := by
  pointwise [stack]

/-- Row 3 of the sixteen. -/
theorem stack_at3 (r0 r1 r2 r3 r4 r5 r6 r7 r8 z : FVec Ideal S4x1x100 .f32) (b : Fin 4) (g : Fin 100) :
    stack r0 r1 r2 r3 r4 r5 r6 r7 r8 z (ix3 b 3 g) = r3 (ix3 b 0 g) := by
  pointwise [stack]

/-- Row 4 of the sixteen. -/
theorem stack_at4 (r0 r1 r2 r3 r4 r5 r6 r7 r8 z : FVec Ideal S4x1x100 .f32) (b : Fin 4) (g : Fin 100) :
    stack r0 r1 r2 r3 r4 r5 r6 r7 r8 z (ix3 b 4 g) = r4 (ix3 b 0 g) := by
  pointwise [stack]

/-- Row 5 of the sixteen. -/
theorem stack_at5 (r0 r1 r2 r3 r4 r5 r6 r7 r8 z : FVec Ideal S4x1x100 .f32) (b : Fin 4) (g : Fin 100) :
    stack r0 r1 r2 r3 r4 r5 r6 r7 r8 z (ix3 b 5 g) = r5 (ix3 b 0 g) := by
  pointwise [stack]

/-- Row 6 of the sixteen. -/
theorem stack_at6 (r0 r1 r2 r3 r4 r5 r6 r7 r8 z : FVec Ideal S4x1x100 .f32) (b : Fin 4) (g : Fin 100) :
    stack r0 r1 r2 r3 r4 r5 r6 r7 r8 z (ix3 b 6 g) = r6 (ix3 b 0 g) := by
  pointwise [stack]

/-- Row 7 of the sixteen. -/
theorem stack_at7 (r0 r1 r2 r3 r4 r5 r6 r7 r8 z : FVec Ideal S4x1x100 .f32) (b : Fin 4) (g : Fin 100) :
    stack r0 r1 r2 r3 r4 r5 r6 r7 r8 z (ix3 b 7 g) = r7 (ix3 b 0 g) := by
  pointwise [stack]

/-- Row 8 of the sixteen. -/
theorem stack_at8 (r0 r1 r2 r3 r4 r5 r6 r7 r8 z : FVec Ideal S4x1x100 .f32) (b : Fin 4) (g : Fin 100) :
    stack r0 r1 r2 r3 r4 r5 r6 r7 r8 z (ix3 b 8 g) = r8 (ix3 b 0 g) := by
  pointwise [stack]

/-- The difference of two arrays at an entry. -/
theorem sub_at (x y : FVec Ideal S4x100 .f32) (b : Fin 4) (g : Fin 100) : subf x y (ix2 b g) = x (ix2 b g) - y (ix2 b g) := rfl

/-- The sum of two arrays at an entry. -/
theorem add_at (x y : FVec Ideal S4x100 .f32) (b : Fin 4) (g : Fin 100) : addf x y (ix2 b g) = x (ix2 b g) + y (ix2 b g) := rfl

/-- The first four rows are the targets' boxes. -/
theorem packed_box (G : FVec Ideal S4x100x4 .f32) (b : Fin 4) (g : Fin 100) (k : Fin 4) :
    packed G (ix3 b ⟨k.val, by omega⟩ g) = G (ix3 b g k) := by
  match k with
  | 0 => exact (stack_at0 ..).trans ((asRow_at ..).trans (tcx_at ..))
  | 1 => exact (stack_at1 ..).trans ((asRow_at ..).trans (tcy_at ..))
  | 2 => exact (stack_at2 ..).trans ((asRow_at ..).trans (tw_at ..))
  | 3 => exact (stack_at3 ..).trans ((asRow_at ..).trans (th_at ..))

/-- The next four rows are the edges of the targets' boxes. -/
theorem packed_edges (G : FVec Ideal S4x100x4 .f32) (b : Fin 4) (g : Fin 100) (k : Fin 4) :
    packed G (ix3 b ⟨4 + k.val, by omega⟩ g) = Match.edges (fun k => G (ix3 b g k)) k := by
  match k with
  | 0 => exact (stack_at4 ..).trans ((asRow_at ..).trans (by rw [sub_at, halved_at, tcx_at, tw_at]; rfl))
  | 1 => exact (stack_at5 ..).trans ((asRow_at ..).trans (by rw [sub_at, halved_at, tcy_at, th_at]; rfl))
  | 2 => exact (stack_at6 ..).trans ((asRow_at ..).trans (by rw [add_at, halved_at, tcx_at, tw_at]; rfl))
  | 3 => exact (stack_at7 ..).trans ((asRow_at ..).trans (by rw [add_at, halved_at, tcy_at, th_at]; rfl))

/-- The ninth row is the areas of the targets' boxes. -/
theorem packed_area (G : FVec Ideal S4x100x4 .f32) (b : Fin 4) (g : Fin 100) :
    packed G (ix3 b 8 g) = Match.area (Match.edges (fun k => G (ix3 b g k))) := by
  refine (stack_at8 ..).trans ((asRow_at ..).trans ?_)
  rw [areaOf_at, sub_at, sub_at, add_at, add_at, halved_at, halved_at, tcx_at, tcy_at, tw_at, th_at]
  rfl

end Cert.KernelIdeal.Value

end

end
-- ==== Proof.KAcc.lean ====
module

public import proofs.«01_k».proof.Defs
public import proofs.«01_k».proof.Proof.Gen.KernelIdeal.Frame
public import proofs.«01_k».proof.Proof.KCost
public import proofs.«01_k».proof.Proof.KBlock
public import proofs.«01_k».proof.Proof.KHost
public import Idealize.ShloMosaic.Lib.Claim
public import Idealize.ShloMosaic.Lib.Pipeline.ValueKit
public import Idealize.ShloMosaic.Lib.Pointwise

/-! The two running results after each point of the grid. -/

@[expose] public section

set_option maxRecDepth 16384

noncomputable section

namespace Cert.Match

/-- The costs of one target against the predictions in order, as a sequence: past the last prediction the greatest value. -/
def seqCost (x : Fin 20000 → Fin 81 → EReal) (l : Fin 81) (p : Fin 20000 → Fin 4 → EReal) (g : Fin 4 → EReal) (q : ℕ) : EReal :=
  if h : q < 20000 then cost (x ⟨q, h⟩) l (p ⟨q, h⟩) g else ⊤

/-- The sequence of costs at a prediction. -/
theorem seqCost_at (x : Fin 20000 → Fin 81 → EReal) (l : Fin 81) (p : Fin 20000 → Fin 4 → EReal) (g : Fin 4 → EReal) (q : Fin 20000) :
    seqCost x l p g q.val = cost (x q) l (p q) g := dif_pos q.isLt

end Cert.Match

namespace Cert.KernelIdeal.Value

open Idealize.ShloMosaic Idealize.ShloMosaic.TcCoe Idealize.SL.Sem
open Cert.KernelIdeal Cert.KernelIdeal.Gen

attribute [local instance] Cert.KernelIdeal.Gen.facts

variable (m : (ℓ : Loc nD τ sig) → Buf (Elt Ideal) ℓ) (c : Dev nD)

/-- At the first block of a batch entry, the pair left is the block's pair merged into the starting pair. -/
theorem outs_A (t : Fin cfg0.N) (h0 : t.val % 20 = 0) :
    outsAt0 m c t.val t.isLt =
      (k0_pay5 (kMin (iblk m c 0 t) (iblk m c 1 t) (iblk m c 2 t) (iblk m c 3 t)) (k0_pay1 (F := Ideal)),
       k0_pay6 (kMin (iblk m c 0 t) (iblk m c 1 t) (iblk m c 2 t) (iblk m c 3 t))
        (kIdx (iblk m c 0 t) (iblk m c 1 t) (iblk m c 2 t) (iblk m c 3 t) (BitVec.ofNat 32 (grid0.coords t 1).val)) (k0_pay1 (F := Ideal)) k0_pay2) := by
  rw [outsAt0_A m c t h0]
  frame_out
  rfl

/-- At a later block, the pair left is the block's pair merged into the pair that the point before left. -/
theorem outs_B (t : Fin cfg0.N) (h0 : ¬ t.val % 20 = 0) (h1 : t.val - 1 < cfg0.N) :
    outsAt0 m c t.val t.isLt =
      (k0_pay5 (kMin (iblk m c 0 t) (iblk m c 1 t) (iblk m c 2 t) (iblk m c 3 t)) (outsAt0 m c (t.val - 1) h1).1,
       k0_pay6 (kMin (iblk m c 0 t) (iblk m c 1 t) (iblk m c 2 t) (iblk m c 3 t))
        (kIdx (iblk m c 0 t) (iblk m c 1 t) (iblk m c 2 t) (iblk m c 3 t) (BitVec.ofNat 32 (grid0.coords t 1).val)) (outsAt0 m c (t.val - 1) h1).1
          (outsAt0 m c (t.val - 1) h1).2) := by
  rw [outsAt0_B m c t h0]
  frame_out
  rfl

/-- Point `t` of the grid reads batch entry `t / 20`, first operand. -/
theorem idx0 : ∀ t : Fin cfg0.N, win0_0.index t = ![t.val / 20, 0, 0] := (by decide +kernel : ∀ t : Fin grid0.N, _)
/-- Point `t` of the grid reads batch entry `t / 20`, second operand. -/
theorem idx1 : ∀ t : Fin cfg0.N, win0_1.index t = ![t.val / 20, 0, 0] := (by decide +kernel : ∀ t : Fin grid0.N, _)
/-- Point `t` of the grid reads batch entry `t / 20` and predictions block `t % 20`. -/
theorem idx2 : ∀ t : Fin cfg0.N, win0_2.index t = ![t.val / 20, t.val % 20, 0] := (by decide +kernel : ∀ t : Fin grid0.N, _)
/-- Point `t` of the grid reads batch entry `t / 20` and predictions block `t % 20`. -/
theorem idx3 : ∀ t : Fin cfg0.N, win0_3.index t = ![t.val / 20, t.val % 20, 0] := (by decide +kernel : ∀ t : Fin grid0.N, _)
/-- Point `t` of the grid writes batch entry `t / 20`. -/
theorem idx4 : ∀ t : Fin cfg0.N, win0_4.index t = ![t.val / 20, 0, 0] := (by decide +kernel : ∀ t : Fin grid0.N, _)
/-- Point `t` of the grid writes batch entry `t / 20`. -/
theorem idx5 : ∀ t : Fin cfg0.N, win0_5.index t = ![t.val / 20, 0, 0] := (by decide +kernel : ∀ t : Fin grid0.N, _)
/-- The block number the body reads at point `t`. -/
theorem coord1 : ∀ t : Fin cfg0.N, (grid0.coords t 1).val = t.val % 20 := (by decide +kernel : ∀ t : Fin grid0.N, _)

/-- The one-hot columns that a point reads are those of its batch entry. -/
theorem iblk0_at (t : Fin cfg0.N) (k : Fin 81) (g : Fin 100) (b : Fin 4) (hb : b.val = t.val / 20) :
    (iblk m c 0 t : FVec Ideal S1x81x100 .f32) (ix3 0 k g) = (V m c main_call0_v6 : FVec Ideal S4x81x100 .f32) (ix3 b k g) := by
  blk_simp [iblk, idx0 t]
  refine congrArg _ ?_
  blk_ext [idx0 t]

/-- The packed target rows that a point reads are those of its batch entry. -/
theorem iblk1_at (t : Fin cfg0.N) (k : Fin 16) (g : Fin 100) (b : Fin 4) (hb : b.val = t.val / 20) :
    (iblk m c 1 t : FVec Ideal S1x16x100 .f32) (ix3 0 k g) = (V m c main_call0_v47 : FVec Ideal S4x16x100 .f32) (ix3 b k g) := by
  blk_simp [iblk, idx1 t]
  refine congrArg _ ?_
  blk_ext [idx1 t]

/-- The logits that a point reads are those of its block of predictions. -/
theorem iblk2_at (t : Fin cfg0.N) (r : Fin 1000) (k : Fin 81) (b : Fin 4) (q : Fin 20000) (hb : b.val = t.val / 20) (hq : q.val = 1000 * (t.val % 20) + r.val) :
    (iblk m c 2 t : FVec Ideal S1x1000x81 .f32) (ix3 0 r k) = (V m c main_arg0 : FVec Ideal S4x20000x81 .f32) (ix3 b q k) := by
  blk_simp [iblk, idx2 t]
  refine congrArg _ ?_
  blk_ext [idx2 t]

/-- The boxes that a point reads are those of its block of predictions. -/
theorem iblk3_at (t : Fin cfg0.N) (r : Fin 1000) (k : Fin 4) (b : Fin 4) (q : Fin 20000) (hb : b.val = t.val / 20) (hq : q.val = 1000 * (t.val % 20) + r.val) :
    (iblk m c 3 t : FVec Ideal S1x1000x4 .f32) (ix3 0 r k) = (V m c main_arg1 : FVec Ideal S4x20000x4 .f32) (ix3 b q k) := by
  blk_simp [iblk, idx3 t]
  refine congrArg _ ?_
  blk_ext [idx3 t]

variable (X : FVec Ideal S4x20000x81 .f32) (P : FVec Ideal S4x20000x4 .f32) (G : FVec Ideal S4x100x4 .f32) (L : IVec S4x100 32)
variable (b : Fin 4) (g : Fin 100) (l : Fin 81)

/-- The costs of target `g` of batch entry `b` against the predictions in order. -/
def costs : ℕ → EReal :=
  Match.seqCost (fun q k => X (ix3 b q k)) l (fun q k => P (ix3 b q k)) (fun k => G (ix3 b g k))

variable (eX : m ((c : Thread nD τ).loc main_arg0) = X) (eP : m ((c : Thread nD τ).loc main_arg1) = P)
  (eG : m ((c : Thread nD τ).loc main_arg2) = G) (eL : m ((c : Thread nD τ).loc main_arg3) = L)
  (hl : (L (ix2 b g)).toNat = l.val) (hx : ∀ (q : Fin 20000) (k : Fin 81), X (ix3 b q k) ≠ ⊤ ∧ X (ix3 b q k) ≠ ⊥)

include eL hl in
/-- The one-hot column that a point reads is that of the target's label. -/
theorem blk_onehot (t : Fin cfg0.N) (hb : b.val = t.val / 20) (k : Fin 81) :
    (iblk m c 0 t : FVec Ideal S1x81x100 .f32) (ix3 0 k g) = if k = l then (1 : EReal) else (0 : EReal) := by
  refine (iblk0_at m c t k g b hb).trans ?_
  refine (congrFun ((V_onehot m c).trans (congrArg onehot eL)) _).trans ?_
  rw [onehot_at, hl]
  exact if_congr (by rw [Fin.ext_iff, eq_comm]) rfl rfl

include eG in
/-- The packed rows that a point reads are those of the target's box. -/
theorem blk_packed (t : Fin cfg0.N) (hb : b.val = t.val / 20) : Packed (iblk m c 1 t) g (fun k => G (ix3 b g k)) := by
  have e : ∀ k : Fin 16, (iblk m c 1 t : FVec Ideal S1x16x100 .f32) (ix3 0 k g) = packed G (ix3 b k g) := fun k =>
    (iblk1_at m c t k g b hb).trans (congrFun ((V_packed m c).trans (congrArg packed eG)) _)
  exact ⟨fun k => (e _).trans (packed_box ..), fun k => (e _).trans (packed_edges ..), (e _).trans (packed_area ..)⟩

include eX eP eG eL hl hx in
/-- The block of costs at a point of the grid is its stretch of the costs in order. -/
theorem blk_cost (t : Fin cfg0.N) (hb : b.val = t.val / 20) (r : Fin 1000) :
    kCost (iblk m c 0 t) (iblk m c 1 t) (iblk m c 2 t) (iblk m c 3 t) (ix2 r g) = costs X P G b g l (1000 * (t.val % 20) + r.val) := by
  have hq : 1000 * (t.val % 20) + r.val < 20000 := by have := r.isLt; omega
  have e2 : ∀ k, (iblk m c 2 t : FVec Ideal S1x1000x81 .f32) (ix3 0 r k) = X (ix3 b ⟨_, hq⟩ k) := fun k =>
    (iblk2_at m c t r k b ⟨_, hq⟩ hb rfl).trans (congrFun ((V_main_arg0 m c).trans eX) _)
  have e3 : ∀ k, (iblk m c 3 t : FVec Ideal S1x1000x4 .f32) (ix3 0 r k) = P (ix3 b ⟨_, hq⟩ k) := fun k =>
    (iblk3_at m c t r k b ⟨_, hq⟩ hb rfl).trans (congrFun ((V_main_arg1 m c).trans eP) _)
  refine (kCost_at _ _ _ _ r g _ (blk_packed m c G b g eG t hb) l (blk_onehot m c L b g l eL hl t hb) fun k => ?_).trans ?_
  · have h := hx ⟨_, hq⟩ k
    rw [← e2 k] at h
    exact h
  refine Eq.trans ?_ (Match.seqCost_at _ _ _ _ ⟨_, hq⟩).symm
  exact congrArg₂ (fun a d => Match.cost a l d _) (funext e2) (funext e3)

include eX eP eG eL hl hx in
/-- After block `n` of a batch entry, the pair left is that of the costs read so far. -/
theorem acc (n : ℕ) (hn : n < 20) (t : Fin cfg0.N) (ht : t.val = 20 * b.val + n) :
    Match.FirstMin (costs X P G b g l) 0 (1000 * n + 1000) ((outsAt0 m c t.val t.isLt).1 (ix3 0 0 g))
      ((outsAt0 m c t.val t.isLt).2 (ix3 0 0 g)).toNat := by
  induction n generalizing t with
  | zero =>
    have h := start_pair g (iblk m c 0 t) (iblk m c 1 t) (iblk m c 2 t) (iblk m c 3 t) (costs X P G b g l) fun r => by
      rw [blk_cost m c X P G L b g l eX eP eG eL hl hx t (by omega) r]
      exact congrArg _ (by omega)
    rw [congrArg Prod.fst (outs_A m c t (by omega)), congrArg Prod.snd (outs_A m c t (by omega)),
      show (grid0.coords t 1).val = 0 from (coord1 t).trans (by omega), Nat.mul_zero, Nat.zero_add]
    dsimp only
    exact h
  | succ n ih =>
    have h1 : t.val - 1 < cfg0.N := by have := t.isLt; omega
    have h := step_pair g (iblk m c 0 t) (iblk m c 1 t) (iblk m c 2 t) (iblk m c 3 t) (costs X P G b g l) (n + 1) hn (fun r => by
      rw [blk_cost m c X P G L b g l eX eP eG eL hl hx t (by omega) r]
      exact congrArg _ (by omega)) _ _ (ih (by omega) ⟨t.val - 1, h1⟩ (by simp only; omega))
    rw [congrArg Prod.fst (outs_B m c t (by omega) h1), congrArg Prod.snd (outs_B m c t (by omega) h1),
      show (grid0.coords t 1).val = n + 1 from (coord1 t).trans (by omega)]
    exact h

end Cert.KernelIdeal.Value

end

end
-- ==== Proof.RefCost.lean ====
module

public import proofs.«01_k».proof.Defs
public import proofs.«01_k».proof.Proof.Gen.ReferenceIdeal
public import proofs.«01_k».proof.Proof.RefDefs
public import proofs.«01_k».proof.Proof.RefRun
public import proofs.«01_k».proof.Proof.Cost
public import Idealize.ShloMosaic.Lib.Claim
public import Idealize.ShloMosaic.Lib.Pointwise
public import Idealize.ShloMosaic.Lib.WordCmp

/-! The reference's cost array, read at a prediction and a target: the scalar cost. -/

@[expose] public section

set_option maxRecDepth 16384

noncomputable section

namespace Cert.ReferenceIdeal.Ref

open Idealize.ShloMosaic Idealize.ShloMosaic.TcCoe Idealize.SL.Sem
open Cert.ReferenceIdeal Cert.ReferenceIdeal.Facts₀ Cert.ReferenceIdeal.Facts

attribute [local instance] Cert.ReferenceIdeal.Gen.facts

variable (X : FVec Ideal S4x20000x81 .f32) (P : FVec Ideal S4x20000x4 .f32) (G : FVec Ideal S4x100x4 .f32) (L : IVec S4x100 32)
variable (b : Fin 4) (q : Fin 20000) (g : Fin 100) (l : Fin 81)

/-- The box distance. -/
theorem boxCost_at : boxCost P G (ix3 b q g) = Match.dist (fun k => P (ix3 b q k)) (fun k => G (ix3 b g k)) := by
  pointwise [boxCost, Match.dist]
  rfl

/-- The edges of a predicted box. -/
theorem pCorners_at (k : Fin 4) : vPCorners P (ix3 b q k) = Match.edges (fun k => P (ix3 b q k)) k := by
  have e0 : vPCorners P (ix3 b q 0) = Match.edges (fun k => P (ix3 b q k)) 0 := by
    pointwise [vPCorners, pCorners, pX1, pX2, pY1, pY2, Match.edges]
  have e1 : vPCorners P (ix3 b q 1) = Match.edges (fun k => P (ix3 b q k)) 1 := by
    pointwise [vPCorners, pCorners, pX1, pX2, pY1, pY2, Match.edges]
  have e2 : vPCorners P (ix3 b q 2) = Match.edges (fun k => P (ix3 b q k)) 2 := by
    pointwise [vPCorners, pCorners, pX1, pX2, pY1, pY2, Match.edges]
  have e3 : vPCorners P (ix3 b q 3) = Match.edges (fun k => P (ix3 b q k)) 3 := by
    pointwise [vPCorners, pCorners, pX1, pX2, pY1, pY2, Match.edges]
  fin_cases k
  exacts [e0, e1, e2, e3]

/-- The edges of a target box. -/
theorem gCorners_at (k : Fin 4) : vGCorners G (ix3 b g k) = Match.edges (fun k => G (ix3 b g k)) k := by
  have e0 : vGCorners G (ix3 b g 0) = Match.edges (fun k => G (ix3 b g k)) 0 := by
    pointwise [vGCorners, gCorners, gX1, gX2, gY1, gY2, Match.edges]
  have e1 : vGCorners G (ix3 b g 1) = Match.edges (fun k => G (ix3 b g k)) 1 := by
    pointwise [vGCorners, gCorners, gX1, gX2, gY1, gY2, Match.edges]
  have e2 : vGCorners G (ix3 b g 2) = Match.edges (fun k => G (ix3 b g k)) 2 := by
    pointwise [vGCorners, gCorners, gX1, gX2, gY1, gY2, Match.edges]
  have e3 : vGCorners G (ix3 b g 3) = Match.edges (fun k => G (ix3 b g k)) 3 := by
    pointwise [vGCorners, gCorners, gX1, gX2, gY1, gY2, Match.edges]
  fin_cases k
  exacts [e0, e1, e2, e3]

/-- The generalized overlap, of its parts. -/
theorem giou_def_at (x y z : FVec Ideal S4x20000x100 .f32) : giou x y z (ix3 b q g)
    = x (ix3 b q g) - Ideal.div (y (ix3 b q g) - z (ix3 b q g)) (y (ix3 b q g) + Ideal.ofBits .f32 0x322BCC77#32) := by
  pointwise [giou]

/-- The overlap, of its parts. -/
theorem iou_def_at (x y : FVec Ideal S4x20000x100 .f32) : iou x y (ix3 b q g)
    = Ideal.div (x (ix3 b q g)) (y (ix3 b q g) + Ideal.ofBits .f32 0x322BCC77#32) := by
  pointwise [iou]

/-- The covered area, of its parts. -/
theorem union_def_at (x : FVec Ideal S4x20000 .f32) (y : FVec Ideal S4x100 .f32) (z : FVec Ideal S4x20000x100 .f32) :
    union x y z (ix3 b q g) = x (ix2 b q) + y (ix2 b g) - z (ix3 b q g) := by
  pointwise [union]

/-- The common area, of its two extents. -/
theorem inter_def_at (x : FVec Ideal S4x20000x100x2 .f32) :
    inter x (ix3 b q g) = x (ix4 b q g 0) * x (ix4 b q g 1) := by
  pointwise [inter]

/-- The hull's area, of its two extents. -/
theorem hull_def_at (x : FVec Ideal S4x20000x100x2 .f32) :
    hull x (ix3 b q g) = x (ix4 b q g 0) * x (ix4 b q g 1) := by
  pointwise [hull]

/-- The width of the common part. -/
theorem interWH_at0 (x : FVec Ideal S4x20000x4 .f32) (y : FVec Ideal S4x100x4 .f32) : interWH x y (ix4 b q g 0)
    = max 0 (min (x (ix3 b q 2)) (y (ix3 b g 2)) - max (x (ix3 b q 0)) (y (ix3 b g 0))) := by
  pointwise [interWH]

/-- The height of the common part. -/
theorem interWH_at1 (x : FVec Ideal S4x20000x4 .f32) (y : FVec Ideal S4x100x4 .f32) : interWH x y (ix4 b q g 1)
    = max 0 (min (x (ix3 b q 3)) (y (ix3 b g 3)) - max (x (ix3 b q 1)) (y (ix3 b g 1))) := by
  pointwise [interWH]

/-- The width of the hull. -/
theorem hullWH_at0 (x : FVec Ideal S4x20000x4 .f32) (y : FVec Ideal S4x100x4 .f32) : hullWH x y (ix4 b q g 0)
    = max 0 (max (x (ix3 b q 2)) (y (ix3 b g 2)) - min (x (ix3 b q 0)) (y (ix3 b g 0))) := by
  pointwise [hullWH]

/-- The height of the hull. -/
theorem hullWH_at1 (x : FVec Ideal S4x20000x4 .f32) (y : FVec Ideal S4x100x4 .f32) : hullWH x y (ix4 b q g 1)
    = max 0 (max (x (ix3 b q 3)) (y (ix3 b g 3)) - min (x (ix3 b q 1)) (y (ix3 b g 1))) := by
  pointwise [hullWH]

/-- The area of a predicted box, of its edges. -/
theorem pArea_def_at (x : FVec Ideal S4x20000x4 .f32) :
    pArea x (ix2 b q) = (x (ix3 b q 2) - x (ix3 b q 0)) * (x (ix3 b q 3) - x (ix3 b q 1)) := by
  pointwise [pArea]

/-- The area of a target box, of its edges. -/
theorem gArea_def_at (x : FVec Ideal S4x100x4 .f32) :
    gArea x (ix2 b g) = (x (ix3 b g 2) - x (ix3 b g 0)) * (x (ix3 b g 3) - x (ix3 b g 1)) := by
  pointwise [gArea]

/-- The common area. -/
theorem inter_at : inter (interWH (vPCorners P) (vGCorners G)) (ix3 b q g)
    = Match.inter (Match.edges fun k => P (ix3 b q k)) (Match.edges fun k => G (ix3 b g k)) := by
  rw [inter_def_at, interWH_at0, interWH_at1]
  simp only [pCorners_at, gCorners_at, Match.inter]

/-- The hull's area. -/
theorem hull_at : hull (hullWH (vPCorners P) (vGCorners G)) (ix3 b q g)
    = Match.hull (Match.edges fun k => P (ix3 b q k)) (Match.edges fun k => G (ix3 b g k)) := by
  rw [hull_def_at, hullWH_at0, hullWH_at1]
  simp only [pCorners_at, gCorners_at, Match.hull]

/-- The covered area. -/
theorem union_at : vUnion P G (ix3 b q g)
    = Match.union (Match.edges fun k => P (ix3 b q k)) (Match.edges fun k => G (ix3 b g k)) := by
  unfold vUnion vPArea vGArea
  rw [union_def_at, pArea_def_at, gArea_def_at, inter_at]
  simp only [pCorners_at, gCorners_at, Match.union, Match.area]

/-- The overlap. -/
theorem iou_at : vIou P G (ix3 b q g)
    = Ideal.div (Match.inter (Match.edges fun k => P (ix3 b q k)) (Match.edges fun k => G (ix3 b g k)))
        (Match.union (Match.edges fun k => P (ix3 b q k)) (Match.edges fun k => G (ix3 b g k)) + Match.eps) := by
  unfold vIou
  rw [iou_def_at, inter_at, union_at]

/-- The generalized overlap. -/
theorem giou_at : vGiou P G (ix3 b q g)
    = Match.giou (Match.edges fun k => P (ix3 b q k)) (Match.edges fun k => G (ix3 b g k)) := by
  unfold vGiou
  rw [giou_def_at, iou_at, hull_at, union_at, Match.giou]

/-- The largest logit of a row. -/
theorem rowMax_at : rowMax X (ix2 b q) = max Match.bot (Match.top fun k => X (ix3 b q k)) := by
  have e1 : ∀ R : FVec Ideal S4x20000 .f32,
      maximumf ((broadcastInDim S4x20000 ![] bcast_S_S4x20000) (constant S_ .f32 0xFF800000#32)) R (ix2 b q)
        = max (Ideal.ofBits .f32 0xFF800000#32) (R (ix2 b q)) := fun R => by pointwise
  have e2 : Host.reduce FloatOps.maximumf X (constant S_ .f32 0xFF800000#32) reducesTo_S4x20000x81_S4x20000_d2 h_S_ (ix2 b q)
      = Finset.univ.fold max (Ideal.ofBits .f32 0xFF800000#32) fun k => X (ix3 b q k) := by pointwise
  unfold rowMax
  rw [e1, e2, Match.top]

/-- The exponential of a logit less a given value of its row. -/
theorem expRow_at (M : FVec Ideal S4x20000 .f32) :
    expRow X M (ix3 b q l) = Ideal.exp (X (ix3 b q l) - M (ix2 b q)) := by
  pointwise [expRow]

/-- An array divided by its row sums. -/
theorem softmax_at (E : FVec Ideal S4x20000x81 .f32) :
    softmax E (ix3 b q l) = Ideal.div (E (ix3 b q l)) (∑ k : Fin 81, E (ix3 b q k)) := by
  pointwise [softmax]

/-- The softmax probability of a class. -/
theorem prob_at : vSoftmax X (ix3 b q l) = Match.prob (fun k => X (ix3 b q k)) l := by
  unfold vSoftmax
  rw [softmax_at]
  simp only [expRow_at, rowMax_at]
  have h : ∀ y : EReal, max Match.bot y = y := fun y => by rw [Match.bot_eq]; exact max_eq_right bot_le
  simp only [h]
  rfl

/-- The gather takes the entry that the index names, held within the row. -/
theorem gather_at (Y : FVec Ideal S4x20000x81 .f32) (z : IVec S4x20000x100x1 32) :
    Host.gather gather_S4x20000x81_S4x20000x100x1_S4x20000x100_n_2_01_01_2_3_111 Y z (ix3 b q g)
      = Y (ix3 b q ⟨min (z (ix4 b q g 0)).toInt.toNat 80, by omega⟩) := by
  unfold Host.gather
  refine congrArg Y (funext fun a => Fin.ext ?_)
  set d := gather_S4x20000x81_S4x20000x100x1_S4x20000x100_n_2_01_01_2_3_111 with hd
  match a with
  | ⟨0, _⟩ =>
    show d.start (ix3 b q g) z 0 + d.batchCoord (ix3 b q g) 0 + d.offCoord (ix3 b q g) 0 = b.val
    rw [GatherDims.offCoord_eq_zero _ _ _ (by decide)]
    have h1 : d.start (ix3 b q g) z 0 = 0 := by unfold GatherDims.start; exact dif_neg (by decide)
    have h2 : d.batchCoord (ix3 b q g) 0 = b.val := by unfold GatherDims.batchCoord; exact (dif_pos (by decide)).trans rfl
    rw [h1, h2]; omega
  | ⟨1, _⟩ =>
    show d.start (ix3 b q g) z 1 + d.batchCoord (ix3 b q g) 1 + d.offCoord (ix3 b q g) 1 = q.val
    rw [GatherDims.offCoord_eq_zero _ _ _ (by decide)]
    have h1 : d.start (ix3 b q g) z 1 = 0 := by unfold GatherDims.start; exact dif_neg (by decide)
    have h2 : d.batchCoord (ix3 b q g) 1 = q.val := by unfold GatherDims.batchCoord; exact (dif_pos (by decide)).trans rfl
    rw [h1, h2]; omega
  | ⟨2, _⟩ =>
    show d.start (ix3 b q g) z 2 + d.batchCoord (ix3 b q g) 2 + d.offCoord (ix3 b q g) 2 = _
    rw [GatherDims.offCoord_eq_zero _ _ _ (by decide), GatherDims.batchCoord_eq_zero _ _ _ (by decide)]
    simp only [Nat.add_zero]
    unfold GatherDims.start
    rw [dif_pos (show (2 : Fin 3) ∈ d.startIndexMap from List.mem_singleton.mpr rfl)]
    have hsi : d.siIdx (ix3 b q g) ⟨d.startIndexMap.idxOf 2, List.idxOf_lt_length_iff.2 (List.mem_singleton.mpr rfl)⟩
        = ix4 b q g 0 := by
      funext c
      match c with
      | ⟨0, _⟩ => rfl
      | ⟨1, _⟩ => rfl
      | ⟨2, _⟩ => rfl
      | ⟨3, _⟩ => rfl
    rw [hsi]
    rfl

/-- The class to look up, when the label names a class: the label. -/
theorem labelIx_at (h : (L (ix2 b g)).toNat < 81) : vLabelIx L (ix3 b q g) = L (ix2 b g) := by
  have e : vLabelIx L (ix3 b q g) = Scalar.select (IntOp.cmpi CmpIPredicate.slt (L (ix2 b g)) 0#32)
      (IntOp.addi (L (ix2 b g)) 81#32) (L (ix2 b g)) := by pointwise [vLabelIx, labelIx]
  rw [e]
  generalize L (ix2 b g) = w at h ⊢
  have hlt : IntOp.cmpi CmpIPredicate.slt w 0#32 = 0#1 := by word_cmp
  rw [hlt]; rfl

/-- The column of classes to look up, read. -/
theorem labelCol_at (x : IVec S4x20000x100 32) : labelCol x (ix4 b q g 0) = x (ix3 b q g) := by
  pointwise [labelCol]

/-- The check that the class exists. -/
theorem labelOk_at (x : IVec S4x20000x100x1 32) : labelOk x (ix3 b q g)
    = Finset.univ.fold IntOp.andi (1#1) fun k : Fin 1 =>
        IntOp.andi (IntOp.cmpi CmpIPredicate.sge (x (ix4 b q g k)) 0#32) (IntOp.cmpi CmpIPredicate.sle (x (ix4 b q g k)) 80#32) := by
  pointwise [labelOk]

/-- The look-up, when the label names a class. -/
theorem labelProb_at (h : (L (ix2 b g)).toNat < 81) (Y : FVec Ideal S4x20000x81 .f32) :
    labelProb (vLabelOk L) Y (vLabelCol L) (ix3 b q g) = Y (ix3 b q ⟨(L (ix2 b g)).toNat, h⟩) := by
  have hc : vLabelCol L (ix4 b q g 0) = L (ix2 b g) := (labelCol_at b q g _).trans (labelIx_at L b q g h)
  have hok : vLabelOk L (ix3 b q g) = 1#1 := by
    unfold vLabelOk
    rw [labelOk_at]
    simp only [Finset.univ_unique, Finset.fold_singleton, Fin.default_eq_zero, Fin.isValue, hc]
    generalize L (ix2 b g) = w at h ⊢
    have h1 : IntOp.cmpi CmpIPredicate.sge w 0#32 = 1#1 := by word_cmp
    have h2 : IntOp.cmpi CmpIPredicate.sle w 80#32 = 1#1 := by word_cmp
    rw [h1, h2]; rfl
  have e : labelProb (vLabelOk L) Y (vLabelCol L) (ix3 b q g) = Scalar.select (vLabelOk L (ix3 b q g))
      (Host.gather gather_S4x20000x81_S4x20000x100x1_S4x20000x100_n_2_01_01_2_3_111 Y (vLabelCol L) (ix3 b q g))
      (Ideal.ofBits FTy.f32 2143289344#32) := by pointwise [labelProb]
  rw [e, hok, gather_at]
  simp only [hc]
  refine congrArg Y ?_
  have hi : (L (ix2 b g)).toInt = ((L (ix2 b g)).toNat : Int) := BitVec.toInt_eq_toNat_of_lt (by omega)
  refine congrArg (ix3 b q) (Fin.ext ?_)
  show min (L (ix2 b g)).toInt.toNat 80 = (L (ix2 b g)).toNat
  rw [hi]
  omega

/-- The cost, of its parts. -/
theorem cost_def_at (x y z : FVec Ideal S4x20000x100 .f32) : cost x y z (ix3 b q g)
    = Ideal.ofBits .f32 0x40A00000#32 * x (ix3 b q g) + y (ix3 b q g) + Ideal.ofBits .f32 0x40000000#32 * -z (ix3 b q g) := by
  pointwise [cost]

/-- The class part of the cost, of the probability. -/
theorem classCost_def_at (x : FVec Ideal S4x20000x100 .f32) : classCost x (ix3 b q g) = -x (ix3 b q g) := by
  pointwise [classCost]

/-- THE REFERENCE'S COST: at a prediction and a target whose label names a class, the scalar cost. -/
theorem cost_at (h : (L (ix2 b g)).toNat < 81) : vCost X P G L (ix3 b q g)
    = Match.cost (fun k => X (ix3 b q k)) ⟨(L (ix2 b g)).toNat, h⟩ (fun k => P (ix3 b q k)) (fun k => G (ix3 b g k)) := by
  unfold vCost vClassCost vBoxCost
  rw [cost_def_at, classCost_def_at, boxCost_at, labelProb_at L b q g h, prob_at, giou_at, Match.cost]

end Cert.ReferenceIdeal.Ref

end

end
-- ==== Proof.RefMin.lean ====
module

public import proofs.«01_k».proof.Defs
public import proofs.«01_k».proof.Proof.Gen.ReferenceIdeal
public import proofs.«01_k».proof.Proof.RefDefs
public import proofs.«01_k».proof.Proof.RefRun
public import proofs.«01_k».proof.Proof.Cost
public import proofs.«01_k».proof.Proof.Least
public import proofs.«01_k».proof.Proof.RefCost
public import Idealize.ShloMosaic.Lib.Claim
public import Idealize.ShloMosaic.Lib.Pointwise
public import Idealize.ShloMosaic.Lib.WordCmp

/-! The reference's two results at a target: the least cost over the predictions and the first prediction attaining it. -/

@[expose] public section

set_option maxRecDepth 16384

noncomputable section

namespace Cert.ReferenceIdeal.Ref

open Idealize.ShloMosaic Idealize.ShloMosaic.TcCoe Idealize.SL.Sem
open Cert.ReferenceIdeal Cert.ReferenceIdeal.Facts₀ Cert.ReferenceIdeal.Facts

attribute [local instance] Cert.ReferenceIdeal.Gen.facts

/-- The order the reducer keeps the least of: by value, then by position read signed. -/
def Before (a b : EReal × BitVec 32) : Prop := a.1 < b.1 ∨ (a.1 = b.1 ∧ a.2.toInt ≤ b.2.toInt)

/-- The order is transitive. -/
theorem Before.trans {a b c : EReal × BitVec 32} (h : Before a b) (k : Before b c) : Before a c := by
  rcases h with h | ⟨h, h'⟩ <;> rcases k with k | ⟨k, k'⟩
  · exact Or.inl (h.trans k)
  · exact Or.inl (k ▸ h)
  · exact Or.inl (h ▸ k)
  · exact Or.inr ⟨h.trans k, h'.trans k'⟩

/-- The reducer keeps its first pair when that is strictly before the second, else the second. -/
theorem reducer_eq (a b : EReal × BitVec 32) : reducer_argmin_f32_i32 (F := Ideal) a b
    = if a.1 < b.1 ∨ (a.1 = b.1 ∧ a.2.toInt < b.2.toInt) then a else b := by
  obtain ⟨x, i⟩ := a
  obtain ⟨y, j⟩ := b
  unfold reducer_argmin_f32_i32
  have e1 : FloatOps.cmpf (F := Ideal) (φ := .f32) .olt x y = if x < y then 1#1 else 0#1 := by
    show Ideal.cmp .olt x y = _
    by_cases h : x < y <;> simp [Ideal.cmp, h]
  have e2 : FloatOps.cmpf (F := Ideal) (φ := .f32) .une x x = 0#1 := by
    show Ideal.cmp .une x x = _
    simp [Ideal.cmp]
  have e3 : FloatOps.cmpf (F := Ideal) (φ := .f32) .oeq x y = if x = y then 1#1 else 0#1 := by
    show Ideal.cmp .oeq x y = _
    by_cases h : x = y <;> simp [Ideal.cmp, h]
  have e4 : IntOp.cmpi .slt i j = if i.toInt < j.toInt then 1#1 else 0#1 := by
    show BitVec.ofBool (i.slt j) = _
    rw [BitVec.slt]
    by_cases h : i.toInt < j.toInt <;> simp [h]
  simp only [e1, e2, e3, e4]
  by_cases h1 : x < y
  · have hor : ∀ z : BitVec 1, 1#1 ||| z = 1#1 := by decide
    simp [h1, IntOp.ori, Scalar.select, hor]
  · by_cases h2 : x = y
    · by_cases h3 : i.toInt < j.toInt
      · simp [h2, h3, IntOp.ori, IntOp.andi, Scalar.select]
      · simp [h2, h3, IntOp.ori, IntOp.andi, Scalar.select]
    · simp [h1, h2, IntOp.ori, IntOp.andi, Scalar.select]

/-- The reducer's result comes before both pairs and is one of them. -/
theorem reducer_least (a b : EReal × BitVec 32) : Before (reducer_argmin_f32_i32 (F := Ideal) a b) a
    ∧ Before (reducer_argmin_f32_i32 (F := Ideal) a b) b
    ∧ (reducer_argmin_f32_i32 (F := Ideal) a b = a ∨ reducer_argmin_f32_i32 (F := Ideal) a b = b) := by
  rw [reducer_eq]
  by_cases h : a.1 < b.1 ∨ (a.1 = b.1 ∧ a.2.toInt < b.2.toInt)
  · rw [if_pos h]
    exact ⟨Or.inr ⟨rfl, le_rfl⟩, h.imp id fun h => ⟨h.1, h.2.le⟩, Or.inl rfl⟩
  · rw [if_neg h]
    refine ⟨?_, Or.inr ⟨rfl, le_rfl⟩, Or.inr rfl⟩
    rcases not_or.mp h with ⟨h1, h2⟩
    rcases lt_or_eq_of_le (not_lt.mp h1) with h3 | h3
    · exact Or.inl h3
    · exact Or.inr ⟨h3, not_lt.mp fun h4 => h2 ⟨h3.symm, h4⟩⟩

/-- Folding the reducer over a list gives a pair before the start and every entry, itself one of these. -/
theorem foldl_least (l : List (EReal × BitVec 32)) : ∀ z : EReal × BitVec 32,
    Before (l.foldl (reducer_argmin_f32_i32 (F := Ideal)) z) z
    ∧ (∀ p ∈ l, Before (l.foldl (reducer_argmin_f32_i32 (F := Ideal)) z) p)
    ∧ (l.foldl (reducer_argmin_f32_i32 (F := Ideal)) z = z ∨ l.foldl (reducer_argmin_f32_i32 (F := Ideal)) z ∈ l) := by
  induction l with
  | nil => exact fun z => ⟨Or.inr ⟨rfl, le_rfl⟩, fun p hp => absurd hp List.not_mem_nil, Or.inl rfl⟩
  | cons a l ih =>
    intro z
    rw [List.foldl_cons]
    obtain ⟨h1, h2, h3⟩ := ih (reducer_argmin_f32_i32 (F := Ideal) z a)
    obtain ⟨k1, k2, k3⟩ := reducer_least z a
    refine ⟨h1.trans k1, fun p hp => ?_, ?_⟩
    · rcases List.mem_cons.mp hp with rfl | hp
      · exact h1.trans k2
      · exact h2 p hp
    · rcases h3 with h3 | h3
      · rw [h3]
        rcases k3 with k3 | k3
        · exact Or.inl k3
        · exact Or.inr (by rw [k3]; exact List.mem_cons_self)
      · exact Or.inr (List.mem_cons_of_mem a h3)

variable (Y : FVec Ideal S4x20000x100 .f32) (b : Fin 4) (g : Fin 100)

/-- The entries folded at a target: its costs with their positions. -/
theorem mem_fiber (p : EReal × BitVec 32) :
    p ∈ Host.argReduceFiber (α := EReal) Y (iotaInDim S4x20000x100 32 1) reducesTo_S4x20000x100_S4x100_d1 (ix2 b g)
      ↔ ∃ q : Fin 20000, p = (Y (ix3 b q g), BitVec.ofNat 32 q.val) := by
  unfold Host.argReduceFiber
  simp only [List.mem_map, List.mem_filter, List.mem_finRange, true_and, decide_eq_true_eq]
  constructor
  · rintro ⟨n, hn, rfl⟩
    generalize S4x20000x100.rowMajor.symm n = i at hn ⊢
    have h0 : i 0 = b := congrFun hn 0
    have h2 : i 2 = g := congrFun hn 1
    refine ⟨i 1, ?_⟩
    have hi : i = ix3 b (i 1) g := by
      rw [← h0, ← h2]
      exact funext fun a => by match a with | ⟨0, _⟩ => rfl | ⟨1, _⟩ => rfl | ⟨2, _⟩ => rfl
    exact Prod.ext (congrArg Y hi) rfl
  · rintro ⟨q, rfl⟩
    refine ⟨S4x20000x100.rowMajor (ix3 b q g), ?_, ?_⟩
    · rw [Equiv.symm_apply_apply]
      exact funext fun a => by match a with | ⟨0, _⟩ => rfl | ⟨1, _⟩ => rfl
    · rw [Equiv.symm_apply_apply]
      rfl

/-- The list of entries folded at a target. -/
def fiber : List (EReal × BitVec 32) :=
  Host.argReduceFiber (α := EReal) Y (iotaInDim S4x20000x100 32 1) reducesTo_S4x20000x100_S4x100_d1 (ix2 b g)

/-- The least cost is the fold of the minimum along the predictions. -/
theorem minCost_at : minCost Y (ix2 b g)
    = Finset.univ.fold min (Ideal.ofBits .f32 0x7F800000#32) fun q : Fin 20000 => Y (ix3 b q g) := by
  pointwise [minCost]

/-- The positions, opened. -/
theorem minIdx_eq : minIdx Y = fun j => (Host.argReduce (F := Ideal) (φ := .f32) (reducer_argmin_f32_i32 (F := Ideal)) Y
    (iotaInDim S4x20000x100 32 1) (constant S_ .f32 0x7F800000#32) (constantI S_ 32 0#32) reducesTo_S4x20000x100_S4x100_d1 h_S_ j).2 := by
  unfold minIdx
  rfl

/-- The position is the reducer's, folded over the entries at the target. -/
theorem minIdx_at (z : EReal × BitVec 32) (hz : z = (Ideal.ofBits .f32 0x7F800000#32, 0#32)) : minIdx Y (ix2 b g)
    = ((fiber Y b g).foldl (reducer_argmin_f32_i32 (F := Ideal)) z).2 := by
  have h1 := congrFun (Idealize.ShloMosaic.Ideal.argReduce_eq_reduce2 (φ := .f32) (reducer_argmin_f32_i32 (F := Ideal)) Y (iotaInDim S4x20000x100 32 1)
    (constant S_ .f32 0x7F800000#32) (constantI S_ 32 0#32) reducesTo_S4x20000x100_S4x100_d1 h_S_) (ix2 b g)
  have h2 := Host.reduce2_eq_foldl_fiber (reducer_argmin_f32_i32 (F := Ideal)) Y (iotaInDim S4x20000x100 32 1)
    (constant (F := Ideal) S_ .f32 0x7F800000#32) (constantI S_ 32 0#32) reducesTo_S4x20000x100_S4x100_d1 h_S_ (ix2 b g)
  have h3 : ((constant (F := Ideal) S_ .f32 0x7F800000#32 (Shape.Idx.first h_S_), constantI S_ 32 0#32 (Shape.Idx.first h_S_)) : EReal × BitVec 32) = z := by
    rw [hz]
    unfold constant constantI
    rfl
  rw [h3] at h2
  exact (congrFun (minIdx_eq Y) (ix2 b g)).trans (congrArg Prod.snd (h1.trans h2))

/-- Every list whose entries are the costs with their positions folds to the least cost's first position. -/
theorem fold_pair (l : List (EReal × BitVec 32)) (f : ℕ → EReal)
    (hl : ∀ p, p ∈ l ↔ ∃ q : Fin 20000, p = (f q.val, BitVec.ofNat 32 q.val)) :
    ∃ n : ℕ, n < 20000 ∧ (l.foldl (reducer_argmin_f32_i32 (F := Ideal)) (⊤, 0#32)).2.toNat = n
      ∧ (∀ q, q < 20000 → f n ≤ f q) ∧ ∀ q, q < n → f n < f q := by
  obtain ⟨-, h2, h3⟩ := foldl_least l (⊤, 0#32)
  generalize l.foldl (reducer_argmin_f32_i32 (F := Ideal)) (⊤, 0#32) = r at h2 h3 ⊢
  have hq : ∀ q : Fin 20000, Before r (f q.val, BitVec.ofNat 32 q.val) := fun q => h2 _ ((hl _).mpr ⟨q, rfl⟩)
  have hnat : ∀ n : ℕ, n < 20000 → (BitVec.ofNat 32 n).toNat = n := fun n hn => by rw [BitVec.toNat_ofNat]; omega
  have hint : ∀ n : ℕ, n < 20000 → (BitVec.ofNat 32 n).toInt = n := fun n hn => by
    rw [BitVec.toInt_eq_toNat_of_lt (by rw [hnat n hn]; omega), hnat n hn]
  have hr : ∃ n : ℕ, n < 20000 ∧ r = (f n, BitVec.ofNat 32 n) := by
    rcases h3 with h3 | h3
    · refine ⟨0, by omega, ?_⟩
      have h0 : f 0 = ⊤ := by
        rcases hq ⟨0, by omega⟩ with h | ⟨h, -⟩
        · rw [h3] at h; exact absurd h not_top_lt
        · rw [h3] at h; exact h.symm
      rw [h3, h0]
    · obtain ⟨q, e⟩ := (hl r).mp h3
      exact ⟨q.val, q.isLt, e⟩
  obtain ⟨n, hn, rfl⟩ := hr
  have hle : ∀ q, q < 20000 → f n ≤ f q := fun q h => by
    rcases hq ⟨q, h⟩ with h | ⟨h, -⟩
    · exact h.le
    · exact h.le
  refine ⟨n, hn, hnat n hn, hle, fun q h => ?_⟩
  rcases hq ⟨q, by omega⟩ with k | ⟨-, k⟩
  · exact k
  · simp only [hint n hn, hint q (by omega)] at k
    omega

/-- The reference's position and least cost at a target are the pair of its whole sequence of costs. -/
theorem least_pair (f : ℕ → EReal) (hf : ∀ q : Fin 20000, Y (ix3 b q g) = f q.val) :
    Match.FirstMin f 0 20000 (minCost Y (ix2 b g)) (minIdx Y (ix2 b g)).toNat := by
  have top : Ideal.ofBits .f32 0x7F800000#32 = ⊤ := by simp [Ideal.ofBits, Ideal.ieee]
  have e1 := minCost_at Y b g
  have e2 := minIdx_at Y b g (⊤, 0#32) (by rw [top])
  rw [top] at e1
  obtain ⟨n, hn, h1, h2, h3⟩ := fold_pair (fiber Y b g) f fun p => by
    have h := mem_fiber Y b g p
    simp only [hf] at h
    exact h
  rw [← e2] at h1
  rw [h1]
  have hv : minCost Y (ix2 b g) = f n := by
    refine le_antisymm ?_ ?_
    · rw [e1, Finset.fold_min_le]
      exact Or.inr ⟨⟨n, hn⟩, Finset.mem_univ _, (hf ⟨n, hn⟩).le⟩
    · rw [e1, Finset.le_fold_min]
      exact ⟨le_top, fun q _ => by rw [hf]; exact h2 q.val q.isLt⟩
  rw [hv]
  exact ⟨Nat.zero_le _, hn, rfl, fun q _ h => h2 q h, fun q _ h => h3 q h⟩

end Cert.ReferenceIdeal.Ref
-- ==== Proof.KFinal.lean ====
module

public import proofs.«01_k».proof.Defs
public import proofs.«01_k».proof.Proof.Gen.KernelIdeal.Frame
public import proofs.«01_k».proof.Proof.KAcc
public import proofs.«01_k».proof.Proof.RefCost
public import proofs.«01_k».proof.Proof.RefMin
public import proofs.«01_k».proof.Proof.Least
public import Idealize.ShloMosaic.Lib.Claim
public import Idealize.ShloMosaic.Lib.Pipeline.ValueKit
public import Idealize.ShloMosaic.Lib.Pointwise

/-! The two arrays the grid leaves: the reference's least costs and their predictions. -/

@[expose] public section

set_option maxRecDepth 16384

noncomputable section

namespace Cert.KernelIdeal.Value

open Idealize.ShloMosaic Idealize.ShloMosaic.TcCoe Idealize.SL.Sem
open Cert.KernelIdeal Cert.KernelIdeal.Gen

attribute [local instance] Cert.KernelIdeal.Gen.facts Cert.ReferenceIdeal.Gen.facts

variable (m : (ℓ : Loc nD τ sig) → Buf (Elt Ideal) ℓ) (c : Dev nD)
variable (X : FVec Ideal S4x20000x81 .f32) (P : FVec Ideal S4x20000x4 .f32) (G : FVec Ideal S4x100x4 .f32) (L : IVec S4x100 32)
variable (eX : m ((c : Thread nD τ).loc main_arg0) = X) (eP : m ((c : Thread nD τ).loc main_arg1) = P)
  (eG : m ((c : Thread nD τ).loc main_arg2) = G) (eL : m ((c : Thread nD τ).loc main_arg3) = L)
  (hl : ∀ (b : Fin 4) (g : Fin 100), (L (ix2 b g)).toNat < 81)
  (hx : ∀ (b : Fin 4) (q : Fin 20000) (k : Fin 81), X (ix3 b q k) ≠ ⊤ ∧ X (ix3 b q k) ≠ ⊥)

/-- The costs in order, at a prediction. -/
theorem costs_at (b : Fin 4) (g : Fin 100) (l : Fin 81) (q : Fin 20000) : costs X P G b g l q.val
    = Match.cost (fun k => X (ix3 b q k)) l (fun k => P (ix3 b q k)) (fun k => G (ix3 b g k)) := by
  unfold costs
  rw [Match.seqCost_at]

include eX eP eG eL hl hx in
/-- At the last block of a batch entry, the pair left at a target is the reference's least cost and its prediction. -/
theorem point (t : Fin cfg0.N) (ht : t.val % 20 = 19) (b : Fin 4) (hb : b.val = t.val / 20) (g : Fin 100) :
    (outsAt0 m c t.val t.isLt).1 (ix3 0 0 g) = Cert.ReferenceIdeal.Ref.vMinCost X P G L (ix2 b g)
    ∧ (outsAt0 m c t.val t.isLt).2 (ix3 0 0 g) = Cert.ReferenceIdeal.Ref.vMinIdx X P G L (ix2 b g) := by
  have h := acc m c X P G L b g ⟨(L (ix2 b g)).toNat, hl b g⟩ eX eP eG eL rfl (hx b) 19 (by omega) t (by omega)
  have k := Cert.ReferenceIdeal.Ref.least_pair (Cert.ReferenceIdeal.Ref.vCost X P G L) b g
    (costs X P G b g ⟨(L (ix2 b g)).toNat, hl b g⟩) fun q =>
      (Cert.ReferenceIdeal.Ref.cost_at X P G L b q g (hl b g)).trans (costs_at X P G b g _ q).symm
  obtain ⟨e1, e2⟩ := h.unique k
  rw [show Cert.ReferenceIdeal.Ref.vMinCost X P G L = Cert.ReferenceIdeal.Ref.minCost (Cert.ReferenceIdeal.Ref.vCost X P G L) from rfl,
    show Cert.ReferenceIdeal.Ref.vMinIdx X P G L = Cert.ReferenceIdeal.Ref.minIdx (Cert.ReferenceIdeal.Ref.vCost X P G L) from rfl]
  exact ⟨e1, BitVec.eq_of_toNat_eq e2⟩

/-- A pair of results as the grid's output array keeps them, one row per batch entry. -/
def rowed {α : Type} (Y : S4x100.Idx → α) : S4x1x100.Idx → α := fun i => Y (ix2 (i 0) (i 2))

/-- Dropping the unit axis gives the results back. -/
theorem unrow (Y : FVec Ideal S4x100 .f32) : shapeCast S4x100 (rowed Y : FVec Ideal S4x1x100 .f32) shapeCasts_S4x1x100_S4x100 = Y := by
  funext j
  idx_vars j
  pointwise [rowed]

/-- Dropping the unit axis gives the results back, for words. -/
theorem unrowI (Y : IVec S4x100 32) : shapeCast S4x100 (rowed Y : IVec S4x1x100 32) shapeCasts_S4x1x100_S4x100 = Y := by
  funext j
  idx_vars j
  pointwise [rowed]

/-- The first output's array is what the last block of each batch entry leaves, one row per batch entry. -/
theorem last4 (Y : FVec Ideal S4x100 .f32) (h : ∀ t : Fin cfg0.N, t.val % 20 = 19 → ∀ b : Fin 4, b.val = t.val / 20 → ∀ g : Fin 100,
    (outsAt0 m c t.val t.isLt).1 (ix3 0 0 g) = Y (ix2 b g)) : (dats m 0 c).arrAt 4 cfg0.N = rowed Y := by
  refine (dats m 0 c).arrAt_eq_of_covers 4 _ (by decide +kernel) fun t hf y => ?_
  have h19 : t.val % 20 = 19 := (flush0_4 t).mp hf
  have hN : t.val < 80 := lt_of_lt_of_eq t.isLt (show cfg0.N = 80 from N_0)
  have hp := h t h19 ⟨t.val / 20, by omega⟩ rfl (y 2)
  blk_simp
  rw [after0_4]
  have ey : y = ix3 0 0 (y 2) := by
    funext a
    match a with
    | 0 => exact Subsingleton.elim (α := Fin 1) _ _
    | 1 => exact Subsingleton.elim (α := Fin 1) _ _
    | 2 => rfl
  refine ((congrArg _ ey).trans hp).trans ?_
  unfold rowed
  refine congrArg _ ?_
  blk_ext [idx4 t]

include eX eP eG eL hl hx in
/-- The grid leaves the reference's least costs in its first output. -/
theorem final4 : (dats m 0 c).arrAt 4 cfg0.N = rowed (Cert.ReferenceIdeal.Ref.vMinCost X P G L) :=
  last4 m c _ fun t ht b hb g => (point m c X P G L eX eP eG eL hl hx t ht b hb g).1

/-- The second output's array is what the last block of each batch entry leaves, one row per batch entry. -/
theorem last5 (Y : IVec S4x100 32) (h : ∀ t : Fin cfg0.N, t.val % 20 = 19 → ∀ b : Fin 4, b.val = t.val / 20 → ∀ g : Fin 100,
    (outsAt0 m c t.val t.isLt).2 (ix3 0 0 g) = Y (ix2 b g)) : (dats m 0 c).arrAt 5 cfg0.N = rowed Y := by
  refine (dats m 0 c).arrAt_eq_of_covers 5 _ (by decide +kernel) fun t hf y => ?_
  have h19 : t.val % 20 = 19 := (flush0_5 t).mp hf
  have hN : t.val < 80 := lt_of_lt_of_eq t.isLt (show cfg0.N = 80 from N_0)
  have hp := h t h19 ⟨t.val / 20, by omega⟩ rfl (y 2)
  blk_simp
  rw [after0_5]
  have ey : y = ix3 0 0 (y 2) := by
    funext a
    match a with
    | 0 => exact Subsingleton.elim (α := Fin 1) _ _
    | 1 => exact Subsingleton.elim (α := Fin 1) _ _
    | 2 => rfl
  refine ((congrArg _ ey).trans hp).trans ?_
  unfold rowed
  refine congrArg _ ?_
  blk_ext [idx5 t]

include eX eP eG eL hl hx in
/-- The grid leaves the reference's predictions of least cost in its second output. -/
theorem final5 : (dats m 0 c).arrAt 5 cfg0.N = rowed (Cert.ReferenceIdeal.Ref.vMinIdx X P G L) :=
  last5 m c _ fun t ht b hb g => (point m c X P G L eX eP eG eL hl hx t ht b hb g).2

end Cert.KernelIdeal.Value

end

end
-- ==== Proof.KPre.lean ====
module

public import proofs.«01_k».proof.Defs
public import proofs.«01_k».proof.Proof.Gen.Pre_finite_logits_known_labels
public import Idealize.ShloMosaic.Lib.Claim
public import Idealize.ShloMosaic.Lib.ReduceAll
public import Idealize.ShloMosaic.Lib.Pointwise
public import Idealize.ShloMosaic.Lib.WordCmp
public import Idealize.ShloMosaic.Lib.Tactic.WordOmega

/-! What the precondition says: every logit is a real number, every label names one of the 81 classes. -/

@[expose] public section

set_option maxRecDepth 16384

noncomputable section

namespace Cert.Pre_finite_logits_known_labels.Read

open Idealize.ShloMosaic Idealize.ShloMosaic.TcCoe Idealize.SL.Sem
open Cert.Pre_finite_logits_known_labels Cert.Pre_finite_logits_known_labels.Gen

attribute [local instance] Cert.Pre_finite_logits_known_labels.Gen.facts

variable (X : FVec Ideal S4x20000x81 .f32) (P : FVec Ideal S4x20000x4 .f32) (G : FVec Ideal S4x100x4 .f32) (L : IVec S4x100 32)

/-- The test of every logit. -/
def finiteBits : IVec S4x20000x81 1 :=
  cmpf .olt (Host.absf X) (broadcastInDim S4x20000x81 ![] bcast_S_S4x20000x81 (constant S_ .f32 0x7F800000#32))

/-- The test of every label. -/
def knownBits : IVec S4x100 1 :=
  andi (cmpi .sge L (broadcastInDim S4x100 ![] bcast_S_S4x100 (constantI S_ 32 0#32)))
    (cmpi .slt L (broadcastInDim S4x100 ![] bcast_S_S4x100 (constantI S_ 32 81#32)))

/-- The two tests at their entries. -/
theorem bits_of (h : fn (F := Ideal) X P G L = fun _ => 1#1) :
    (∀ i, finiteBits X i = 1#1) ∧ ∀ i, knownBits L i = 1#1 := by
  have e : fn (F := Ideal) X P G L = andi
      (Host.reduce IntOp.andi (finiteBits X) (constantI S_ 1 1#1) reducesTo_S4x20000x81_S_d0_1_2 h_S_)
      (Host.reduce IntOp.andi (knownBits L) (constantI S_ 1 1#1) reducesTo_S4x100_S_d0_1 h_S_) := rfl
  have hs : Subsingleton S_.Idx := ⟨fun a b => funext fun k => k.elim0⟩
  have h0 := congrFun (e.symm.trans h) (fun k => k.elim0)
  have split : ∀ a b : BitVec 1, IntOp.andi a b = 1#1 → a = 1#1 ∧ b = 1#1 := by decide
  obtain ⟨ha, hb⟩ := split _ _ h0
  exact ⟨Host.reduce_andi_all _ _ _ _ _ ha, Host.reduce_andi_all _ _ _ _ _ hb⟩

/-- The test of a logit passes on real numbers only. -/
theorem finite_of (b : Fin 4) (q : Fin 20000) (k : Fin 81) (h : finiteBits X (ix3 b q k) = 1#1) :
    X (ix3 b q k) ≠ ⊤ ∧ X (ix3 b q k) ≠ ⊥ := by
  have e : finiteBits X (ix3 b q k) = FloatOps.cmpf (F := Ideal) .olt (FloatOps.absf (X (ix3 b q k))) (Ideal.ofBits .f32 0x7F800000#32) := by
    pointwise [finiteBits]
  have top : Ideal.ofBits .f32 0x7F800000#32 = ⊤ := by simp [Ideal.ofBits, Ideal.ieee]
  rw [e, top] at h
  generalize X (ix3 b q k) = x at h
  induction x using EReal.rec <;> simp_all [FloatOps.cmpf, FloatOps.absf, Ideal.cmp]

/-- The test of a label passes on the 81 classes only. -/
theorem known_of (b : Fin 4) (g : Fin 100) (h : knownBits L (ix2 b g) = 1#1) : (L (ix2 b g)).toNat < 81 := by
  have e : knownBits L (ix2 b g) = IntOp.andi (IntOp.cmpi .sge (L (ix2 b g)) 0#32) (IntOp.cmpi .slt (L (ix2 b g)) 81#32) := by
    pointwise [knownBits]
  rw [e] at h
  generalize L (ix2 b g) = w at h ⊢
  have key : ∀ w : BitVec 32, IntOp.andi (IntOp.cmpi .sge w 0#32) (IntOp.cmpi .slt w 81#32) = 1#1 → w.toNat < 81 := by
    intro w h
    word_omega
  exact key w h

end Cert.Pre_finite_logits_known_labels.Read

end

end
-- ==== Proof.KRun.lean ====
module

public import proofs.«01_k».proof.Defs
public import proofs.«01_k».proof.Proof.Gen.KernelIdeal.Frame
public import proofs.«01_k».proof.Proof.KFinal
public import proofs.«01_k».proof.Proof.KPre
public import Idealize.ShloMosaic.Lib.Claim
public import Idealize.ShloMosaic.Lib.Pipeline.FrameTail
public import Idealize.ShloMosaic.Lib.Pipeline.ValueKit

/-! The kernel's run: its two results are the reference's least costs and their predictions. -/

@[expose] public section

set_option maxRecDepth 16384

noncomputable section

namespace Cert.KernelIdeal.Value

open Idealize.ShloMosaic Idealize.ShloMosaic.TcCoe Idealize.SL.Sem
open Cert.KernelIdeal Cert.KernelIdeal.Gen

attribute [local instance] Cert.KernelIdeal.Gen.facts Cert.ReferenceIdeal.Gen.facts

variable (m : (ℓ : Loc nD τ sig) → Buf (Elt Ideal) ℓ) (ρ : Dev nD → PrngReg)

/-- The line after the grid drops the unit axis of the least costs. -/
theorem tail4 (c : Dev nD) (Y : FVec Ideal S4x100 .f32) (hY : (dats m 0 c).arrAt 4 cfg0.N = rowed Y) :
    Pipeline.afterTail₀ cfgs (dats m) 0 (V0 m) [hostOps1] c main_v0_0 = Y := by
  unfold Pipeline.afterTail₀
  have e := Pipeline.withArrays_arr (cfgs 0).spec launch0.win.arr_inj c (V0 m c) (fun w => (dats m 0 c).arrAt w (cfgs 0).N) 4
  replace e := e.trans hY
  generalize Pipeline.withArrays (cfgs 0).spec c (V0 m c) (fun w => (dats m 0 c).arrAt w (cfgs 0).N) = V at e ⊢
  refine Eq.trans (b := shapeCast S4x100 (V (Proc.devRef .tc main_call0_v48_0)) shapeCasts_S4x1x100_S4x100) ?_ ?_
  · unfold_abbrev_sides
    after_reads_simp
    rfl
  · exact (congrArg (fun z : FVec Ideal S4x1x100 .f32 => shapeCast S4x100 z shapeCasts_S4x1x100_S4x100) e).trans (unrow Y)

/-- The line after the grid drops the unit axis of the predictions. -/
theorem tail5 (c : Dev nD) (Y : IVec S4x100 32) (hY : (dats m 0 c).arrAt 5 cfg0.N = rowed Y) :
    Pipeline.afterTail₀ cfgs (dats m) 0 (V0 m) [hostOps1] c main_v0_1 = Y := by
  unfold Pipeline.afterTail₀
  have e := Pipeline.withArrays_arr (cfgs 0).spec launch0.win.arr_inj c (V0 m c) (fun w => (dats m 0 c).arrAt w (cfgs 0).N) 5
  replace e := e.trans hY
  generalize Pipeline.withArrays (cfgs 0).spec c (V0 m c) (fun w => (dats m 0 c).arrAt w (cfgs 0).N) = V at e ⊢
  refine Eq.trans (b := shapeCast S4x100 (V (Proc.devRef .tc main_call0_v48_1)) shapeCasts_S4x1x100_S4x100) ?_ ?_
  · unfold_abbrev_sides
    after_reads_simp
    rfl
  · exact (congrArg (fun z : IVec S4x1x100 32 => shapeCast S4x100 z shapeCasts_S4x1x100_S4x100) e).trans (unrowI Y)

/-- The kernel's run, of the arrays its grid leaves. -/
theorem run_of (Y : Dev nD → FVec Ideal S4x100 .f32) (I : Dev nD → IVec S4x100 32)
    (hY : ∀ c, (dats m 0 c).arrAt 4 cfg0.N = rowed (Y c)) (hI : ∀ c, (dats m 0 c).arrAt 5 cfg0.N = rowed (I c)) :
    θ_run (defs (F := Ideal)) (onTc (τ := τ) (main (F := Ideal))) ⟨m, fun _ => 0, ρ⟩ fun r => ∀ c : Dev nD,
      r.2.mem ((c.tc : Thread nD τ).loc main_v0_0) = Y c
      ∧ r.2.mem ((c.tc : Thread nD τ).loc main_v0_1) = I c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from Cert.KernelIdeal.Gen.run_main m ρ
  · exact tail4 m c (Y c) (hY c)
  · exact tail5 m c (I c) (hI c)
  · exact W_main_arg2 m (dats m) c
  · exact W_main_arg3 m (dats m) c

/-- The kernel's run: where every label names a class and every logit is a real number, its results are the reference's. -/
theorem run (hl : ∀ (c : Dev nD) (b : Fin 4) (g : Fin 100), ((m ((c.tc : Thread nD τ).loc main_arg3) : IVec S4x100 32) (ix2 b g)).toNat < 81)
    (hx : ∀ (c : Dev nD) (b : Fin 4) (q : Fin 20000) (k : Fin 81),
      ((m ((c.tc : Thread nD τ).loc main_arg0) : FVec Ideal S4x20000x81 .f32) (ix3 b q k) : EReal) ≠ (⊤ : EReal)
      ∧ ((m ((c.tc : Thread nD τ).loc main_arg0) : FVec Ideal S4x20000x81 .f32) (ix3 b q k) : EReal) ≠ (⊥ : EReal)) :
    θ_run (defs (F := Ideal)) (onTc (τ := τ) (main (F := Ideal))) ⟨m, fun _ => 0, ρ⟩ fun r => ∀ c : Dev nD,
      r.2.mem ((c.tc : Thread nD τ).loc main_v0_0) = Cert.ReferenceIdeal.Ref.vMinCost (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v0_1) = Cert.ReferenceIdeal.Ref.vMinIdx (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run_of m ρ
    (fun c => Cert.ReferenceIdeal.Ref.vMinCost (m ((c.tc : Thread nD τ).loc main_arg0))
        (m ((c.tc : Thread nD τ).loc main_arg1)) (m ((c.tc : Thread nD τ).loc main_arg2)) (m ((c.tc : Thread nD τ).loc main_arg3)))
    (fun c => Cert.ReferenceIdeal.Ref.vMinIdx (m ((c.tc : Thread nD τ).loc main_arg0))
        (m ((c.tc : Thread nD τ).loc main_arg1)) (m ((c.tc : Thread nD τ).loc main_arg2)) (m ((c.tc : Thread nD τ).loc main_arg3)))
    (fun c => final4 m c _ _ _ _ rfl rfl rfl rfl (hl c) (hx c))
    (fun c => final5 m c _ _ _ _ rfl rfl rfl rfl (hl c) (hx c))

end Cert.KernelIdeal.Value

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_logits_known_labels
public import proofs.«01_k».proof.Proof.RefRun
public import proofs.«01_k».proof.Proof.KRun
public import Idealize.ShloMosaic.Adequacy
public import Idealize.ShloMosaic.Init

@[expose] public section

noncomputable section

namespace Cert.Proof

open Idealize.ShloMosaic Idealize.SL.Sem Cert.Kernel

/-- From memories that agree on the arguments, where every logit is a real number and every label names a class, the kernel and the
    reference end with the same least costs and the same predictions, and with their arguments unchanged. -/
theorem values : Cert.algebraic_KernelIdeal_ReferenceIdeal_pre_finite_logits_known_labels (hKernelIdeal := Cert.KernelIdeal.Gen.facts)
    (hReferenceIdeal := Cert.ReferenceIdeal.Gen.facts) (hPre_finite_logits_known_labels := Cert.Pre_finite_logits_known_labels.Gen.facts) := by
  intro m g m' g' hpre hagree
  have hb := fun c => Cert.Pre_finite_logits_known_labels.Read.bits_of _ _ _ _ (hpre c)
  have hK := Cert.KernelIdeal.Value.run m g
    (fun c b t => Cert.Pre_finite_logits_known_labels.Read.known_of _ b t ((hb c).2 _))
    (fun c b q k => Cert.Pre_finite_logits_known_labels.Read.finite_of _ b q k ((hb c).1 _))
  refine ⟨_, _, hK, ?_⟩
  refine θ_run_mono (Cert.ReferenceIdeal.Ref.run m' g') fun r h c => ?_
  obtain ⟨h0, h1, h2⟩ := h c _ rfl
  obtain ⟨a0, a1, a2, a3⟩ := hagree c
  refine ⟨h0.trans ?_, h1.trans ?_, h2⟩
  · exact congr (congr (congrArg₂ Cert.ReferenceIdeal.Ref.vMinCost a0 a1) a2) a3
  · exact congr (congr (congrArg₂ Cert.ReferenceIdeal.Ref.vMinIdx a0 a1) a2) a3

theorem claim : Cert.Claim := ⟨Cert.Kernel.Gen.facts, Cert.KernelIdeal.Gen.facts, Cert.ReferenceIdeal.Gen.facts,
  Cert.Pre_finite_logits_known_labels.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Ref.frame m ρ, fun m ρ _ => Cert.ReferenceIdeal.Ref.frame m ρ, trivial, values⟩

end Cert.Proof

end
